-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 2] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x1024 : Shape := ⟨2, ![8192, 1024]⟩
abbrev S2720x1024 : Shape := ⟨2, ![2720, 1024]⟩
abbrev S12 : Shape := ⟨1, ![12]⟩
abbrev S4 : Shape := ⟨1, ![4]⟩
abbrev S6 : Shape := ⟨1, ![6]⟩
abbrev S16 : Shape := ⟨1, ![16]⟩
abbrev S_ : Shape := ⟨0, ![]⟩
abbrev S1 : Shape := ⟨1, ![1]⟩
abbrev S152x1024 : Shape := ⟨2, ![152, 1024]⟩
abbrev S1x152x1024 : Shape := ⟨3, ![1, 152, 1024]⟩
abbrev S224x1024 : Shape := ⟨2, ![224, 1024]⟩
abbrev S1x224x1024 : Shape := ⟨3, ![1, 224, 1024]⟩

abbrev nBuf : Space → Nat
  | .hbm => 2
  | .vmem => 2
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .f32⟩
  | .local _ .vmem, ⟨0, _⟩ => ⟨S8192x1024, .f32⟩
  | .local _ .vmem, ⟨1, _⟩ => ⟨S2720x1024, .f32⟩
  | _, _ => ⟨S1x8192x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 121 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | _ => false

abbrev sig : RefSig :=
  (ofTc nBuf bufTy 1 121 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v24 : BitVec 32 := Scalar.muli v2 c4_i32_14
  let v25 : BitVec 32 := Scalar.addi c0_i32 v24
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_15 : BitVec 32 := 2#32
  let v26 : BitVec 32 := Scalar.muli v9 c2_i32_15
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v28 : BitVec 32 := Scalar.muli v8 c1_i32_16
  let v29 : BitVec 32 := Scalar.addi v27 v28
  v29.toNat
def k0_dev2 (d0 : Dev nD) : Nat :=
  let c0_i32_19 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_18 : BitVec 32 := 4#32
  let v30 : BitVec 32 := Scalar.muli v10 c4_i32_18
  let v31 : BitVec 32 := Scalar.addi c0_i32_19 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v32 : BitVec 32 := Scalar.muli v5 c2_i32_20
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v34 : BitVec 32 := Scalar.muli v8 c1_i32_21
  let v35 : BitVec 32 := Scalar.addi v33 v34
  v35.toNat
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v36 : BitVec 32 := Scalar.muli v2 c4_i32_23
  let v37 : BitVec 32 := Scalar.addi c0_i32_24 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v38 : BitVec 32 := Scalar.muli v5 c2_i32_25
  let v39 : BitVec 32 := Scalar.addi v37 v38
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_26 : BitVec 32 := 1#32
  let v40 : BitVec 32 := Scalar.muli v11 c1_i32_26
  let v41 : BitVec 32 := Scalar.addi v39 v40
  v41.toNat
def k0_off1 (d0 : Dev nD) (c0_i32_27 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1824_i32 : BitVec 32 := 1824#32
  let v42 : BitVec 32 := Scalar.muli v13 c1824_i32
  let v43 : BitVec 32 := Scalar.addi v42 c0_i32_27
  let c0_i32_35 : BitVec 32 := 0#32
  ![v43.toNat, 0]
def k0_off2 (d0 : Dev nD) (c0_i32_27 : BitVec 32) : Fin 3 → Nat :=
  let c0_i32_28 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1824_i32 : BitVec 32 := 1824#32
  let v42 : BitVec 32 := Scalar.muli v13 c1824_i32
  let v43 : BitVec 32 := Scalar.addi v42 c0_i32_27
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c1024_i32_12 : BitVec 32 := 1024#32
  let v22 : BitVec 32 := Scalar.muli v21 c1024_i32_12
  ![0, v43.toNat, v22.toNat]
def k0_dev4 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v44 : BitVec 32 := Scalar.muli v2 c4_i32_31
  let v45 : BitVec 32 := Scalar.addi c0_i32_32 v44
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_33 : BitVec 32 := 2#32
  let v46 : BitVec 32 := Scalar.muli v9 c2_i32_33
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v48 : BitVec 32 := Scalar.muli v8 c1_i32_34
  let v49 : BitVec 32 := Scalar.addi v47 v48
  v49.toNat
def k0_off3 (d0 : Dev nD) (c0_i32_27 : BitVec 32) : Fin 3 → Nat :=
  let c0_i32_36 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1824_i32 : BitVec 32 := 1824#32
  let v42 : BitVec 32 := Scalar.muli v13 c1824_i32
  let v43 : BitVec 32 := Scalar.addi v42 c0_i32_27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v20 : BitVec 32 := Scalar.muli v5 c1024_i32
  ![0, v43.toNat, v20.toNat]
def k0_dev5 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v64 : BitVec 32 := Scalar.muli v2 c4_i32_44
  let v65 : BitVec 32 := Scalar.addi c0_i32_45 v64
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_46 : BitVec 32 := 2#32
  let v66 : BitVec 32 := Scalar.muli v9 c2_i32_46
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v68 : BitVec 32 := Scalar.muli v8 c1_i32_47
  let v69 : BitVec 32 := Scalar.addi v67 v68
  v69.toNat
def k0_dev6 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v84 : BitVec 32 := Scalar.muli v2 c4_i32_57
  let v85 : BitVec 32 := Scalar.addi c0_i32_58 v84
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_59 : BitVec 32 := 2#32
  let v86 : BitVec 32 := Scalar.muli v9 c2_i32_59
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v88 : BitVec 32 := Scalar.muli v8 c1_i32_60
  let v89 : BitVec 32 := Scalar.addi v87 v88
  v89.toNat
def k0_dev7 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v104 : BitVec 32 := Scalar.muli v2 c4_i32_70
  let v105 : BitVec 32 := Scalar.addi c0_i32_71 v104
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_72 : BitVec 32 := 2#32
  let v106 : BitVec 32 := Scalar.muli v9 c2_i32_72
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v108 : BitVec 32 := Scalar.muli v8 c1_i32_73
  let v109 : BitVec 32 := Scalar.addi v107 v108
  v109.toNat
def k0_dev8 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v124 : BitVec 32 := Scalar.muli v2 c4_i32_83
  let v125 : BitVec 32 := Scalar.addi c0_i32_84 v124
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_85 : BitVec 32 := 2#32
  let v126 : BitVec 32 := Scalar.muli v9 c2_i32_85
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v128 : BitVec 32 := Scalar.muli v8 c1_i32_86
  let v129 : BitVec 32 := Scalar.addi v127 v128
  v129.toNat
def k0_dev9 (d0 : Dev nD) : Nat :=
  let c0_i32_96 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_95 : BitVec 32 := 4#32
  let v144 : BitVec 32 := Scalar.muli v2 c4_i32_95
  let v145 : BitVec 32 := Scalar.addi c0_i32_96 v144
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_97 : BitVec 32 := 2#32
  let v146 : BitVec 32 := Scalar.muli v9 c2_i32_97
  let v147 : BitVec 32 := Scalar.addi v145 v146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_98 : BitVec 32 := 1#32
  let v148 : BitVec 32 := Scalar.muli v8 c1_i32_98
  let v149 : BitVec 32 := Scalar.addi v147 v148
  v149.toNat
def k0_dev10 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v164 : BitVec 32 := Scalar.muli v2 c4_i32_107
  let v165 : BitVec 32 := Scalar.addi c0_i32_108 v164
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_109 : BitVec 32 := 2#32
  let v166 : BitVec 32 := Scalar.muli v9 c2_i32_109
  let v167 : BitVec 32 := Scalar.addi v165 v166
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v168 : BitVec 32 := Scalar.muli v8 c1_i32_110
  let v169 : BitVec 32 := Scalar.addi v167 v168
  v169.toNat
def k0_dev11 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v184 : BitVec 32 := Scalar.muli v2 c4_i32_119
  let v185 : BitVec 32 := Scalar.addi c0_i32_120 v184
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_121 : BitVec 32 := 2#32
  let v186 : BitVec 32 := Scalar.muli v9 c2_i32_121
  let v187 : BitVec 32 := Scalar.addi v185 v186
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v188 : BitVec 32 := Scalar.muli v8 c1_i32_122
  let v189 : BitVec 32 := Scalar.addi v187 v188
  v189.toNat
def k0_dev12 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v204 : BitVec 32 := Scalar.muli v2 c4_i32_131
  let v205 : BitVec 32 := Scalar.addi c0_i32_132 v204
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_133 : BitVec 32 := 2#32
  let v206 : BitVec 32 := Scalar.muli v9 c2_i32_133
  let v207 : BitVec 32 := Scalar.addi v205 v206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_134 : BitVec 32 := 1#32
  let v208 : BitVec 32 := Scalar.muli v8 c1_i32_134
  let v209 : BitVec 32 := Scalar.addi v207 v208
  v209.toNat
def k0_dev13 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v224 : BitVec 32 := Scalar.muli v2 c4_i32_143
  let v225 : BitVec 32 := Scalar.addi c0_i32_144 v224
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_145 : BitVec 32 := 2#32
  let v226 : BitVec 32 := Scalar.muli v9 c2_i32_145
  let v227 : BitVec 32 := Scalar.addi v225 v226
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_146 : BitVec 32 := 1#32
  let v228 : BitVec 32 := Scalar.muli v8 c1_i32_146
  let v229 : BitVec 32 := Scalar.addi v227 v228
  v229.toNat
def k0_dev14 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v244 : BitVec 32 := Scalar.muli v2 c4_i32_155
  let v245 : BitVec 32 := Scalar.addi c0_i32_156 v244
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_157 : BitVec 32 := 2#32
  let v246 : BitVec 32 := Scalar.muli v9 c2_i32_157
  let v247 : BitVec 32 := Scalar.addi v245 v246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_158 : BitVec 32 := 1#32
  let v248 : BitVec 32 := Scalar.muli v8 c1_i32_158
  let v249 : BitVec 32 := Scalar.addi v247 v248
  v249.toNat
def k0_dev15 (d0 : Dev nD) : Nat :=
  let c0_i32_168 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_167 : BitVec 32 := 4#32
  let v264 : BitVec 32 := Scalar.muli v2 c4_i32_167
  let v265 : BitVec 32 := Scalar.addi c0_i32_168 v264
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_169 : BitVec 32 := 2#32
  let v266 : BitVec 32 := Scalar.muli v9 c2_i32_169
  let v267 : BitVec 32 := Scalar.addi v265 v266
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_170 : BitVec 32 := 1#32
  let v268 : BitVec 32 := Scalar.muli v8 c1_i32_170
  let v269 : BitVec 32 := Scalar.addi v267 v268
  v269.toNat
def k0_off4 (d0 : Dev nD) : Fin 3 → Nat :=
  let c0_i32_176 : BitVec 32 := 0#32
  let c7296_i32_184 : BitVec 32 := 7296#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c1024_i32_12 : BitVec 32 := 1024#32
  let v22 : BitVec 32 := Scalar.muli v21 c1024_i32_12
  ![0, 7296, v22.toNat]
def k0_dev16 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v282 : BitVec 32 := Scalar.muli v2 c4_i32_179
  let v283 : BitVec 32 := Scalar.addi c0_i32_180 v282
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_181 : BitVec 32 := 2#32
  let v284 : BitVec 32 := Scalar.muli v9 c2_i32_181
  let v285 : BitVec 32 := Scalar.addi v283 v284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_182 : BitVec 32 := 1#32
  let v286 : BitVec 32 := Scalar.muli v8 c1_i32_182
  let v287 : BitVec 32 := Scalar.addi v285 v286
  v287.toNat
def k0_off5 (d0 : Dev nD) : Fin 3 → Nat :=
  let c0_i32_185 : BitVec 32 := 0#32
  let c7296_i32_188 : BitVec 32 := 7296#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v20 : BitVec 32 := Scalar.muli v5 c1024_i32
  ![0, 7296, v20.toNat]
def k0_off6 (d0 : Dev nD) : Fin 3 → Nat :=
  let c0_i32_189 : BitVec 32 := 0#32
  let c7520_i32_197 : BitVec 32 := 7520#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c1024_i32_12 : BitVec 32 := 1024#32
  let v22 : BitVec 32 := Scalar.muli v21 c1024_i32_12
  ![0, 7520, v22.toNat]
def k0_dev17 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v300 : BitVec 32 := Scalar.muli v2 c4_i32_192
  let v301 : BitVec 32 := Scalar.addi c0_i32_193 v300
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_194 : BitVec 32 := 2#32
  let v302 : BitVec 32 := Scalar.muli v9 c2_i32_194
  let v303 : BitVec 32 := Scalar.addi v301 v302
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_195 : BitVec 32 := 1#32
  let v304 : BitVec 32 := Scalar.muli v8 c1_i32_195
  let v305 : BitVec 32 := Scalar.addi v303 v304
  v305.toNat
def k0_off7 (d0 : Dev nD) : Fin 3 → Nat :=
  let c0_i32_198 : BitVec 32 := 0#32
  let c7520_i32_200 : BitVec 32 := 7520#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v20 : BitVec 32 := Scalar.muli v5 c1024_i32
  ![0, 7520, v20.toNat]
def k0_off8 (d0 : Dev nD) : Fin 3 → Nat :=
  let c0_i32_201 : BitVec 32 := 0#32
  let c7744_i32_209 : BitVec 32 := 7744#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c1024_i32_12 : BitVec 32 := 1024#32
  let v22 : BitVec 32 := Scalar.muli v21 c1024_i32_12
  ![0, 7744, v22.toNat]
def k0_dev18 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v318 : BitVec 32 := Scalar.muli v2 c4_i32_204
  let v319 : BitVec 32 := Scalar.addi c0_i32_205 v318
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_206 : BitVec 32 := 2#32
  let v320 : BitVec 32 := Scalar.muli v9 c2_i32_206
  let v321 : BitVec 32 := Scalar.addi v319 v320
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_207 : BitVec 32 := 1#32
  let v322 : BitVec 32 := Scalar.muli v8 c1_i32_207
  let v323 : BitVec 32 := Scalar.addi v321 v322
  v323.toNat
def k0_off9 (d0 : Dev nD) : Fin 3 → Nat :=
  let c0_i32_210 : BitVec 32 := 0#32
  let c7744_i32_212 : BitVec 32 := 7744#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v20 : BitVec 32 := Scalar.muli v5 c1024_i32
  ![0, 7744, v20.toNat]
def k0_off10 (d0 : Dev nD) : Fin 3 → Nat :=
  let c0_i32_213 : BitVec 32 := 0#32
  let c7968_i32_221 : BitVec 32 := 7968#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_11 v5
  let c1024_i32_12 : BitVec 32 := 1024#32
  let v22 : BitVec 32 := Scalar.muli v21 c1024_i32_12
  ![0, 7968, v22.toNat]
def k0_dev19 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v336 : BitVec 32 := Scalar.muli v2 c4_i32_216
  let v337 : BitVec 32 := Scalar.addi c0_i32_217 v336
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_218 : BitVec 32 := 2#32
  let v338 : BitVec 32 := Scalar.muli v9 c2_i32_218
  let v339 : BitVec 32 := Scalar.addi v337 v338
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_219 : BitVec 32 := 1#32
  let v340 : BitVec 32 := Scalar.muli v8 c1_i32_219
  let v341 : BitVec 32 := Scalar.addi v339 v340
  v341.toNat
def k0_off11 (d0 : Dev nD) : Fin 3 → Nat :=
  let c0_i32_222 : BitVec 32 := 0#32
  let c7968_i32_224 : BitVec 32 := 7968#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v20 : BitVec 32 := Scalar.muli v5 c1024_i32
  ![0, 7968, v20.toNat]
def k0_off12 (d0 : Dev nD) (c0_i32_238 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1824_i32_237 : BitVec 32 := 1824#32
  let v370 : BitVec 32 := Scalar.muli v13 c1824_i32_237
  let v371 : BitVec 32 := Scalar.addi v370 c0_i32_238
  let v372 : Index := Scalar.indexCast v371
  let c0 : Index := 0#32
  ![v372.toNat, 0]
def k0_dev20 (d0 : Dev nD) : Nat :=
  let c0_i32_245 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_244 : BitVec 32 := 4#32
  let v379 : BitVec 32 := Scalar.muli v10 c4_i32_244
  let v380 : BitVec 32 := Scalar.addi c0_i32_245 v379
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_246 : BitVec 32 := 2#32
  let v381 : BitVec 32 := Scalar.muli v5 c2_i32_246
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_247 : BitVec 32 := 1#32
  let v383 : BitVec 32 := Scalar.muli v8 c1_i32_247
  let v384 : BitVec 32 := Scalar.addi v382 v383
  v384.toNat
def k0_dev21 (d0 : Dev nD) : Nat :=
  let c0_i32_253 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_252 : BitVec 32 := 4#32
  let v391 : BitVec 32 := Scalar.muli v2 c4_i32_252
  let v392 : BitVec 32 := Scalar.addi c0_i32_253 v391
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_254 : BitVec 32 := 2#32
  let v393 : BitVec 32 := Scalar.muli v5 c2_i32_254
  let v394 : BitVec 32 := Scalar.addi v392 v393
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_255 : BitVec 32 := 1#32
  let v395 : BitVec 32 := Scalar.muli v11 c1_i32_255
  let v396 : BitVec 32 := Scalar.addi v394 v395
  v396.toNat
def k0_dev22 (d0 : Dev nD) : Nat :=
  let c0_i32_278 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_277 : BitVec 32 := 4#32
  let v428 : BitVec 32 := Scalar.muli v10 c4_i32_277
  let v429 : BitVec 32 := Scalar.addi c0_i32_278 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_279 : BitVec 32 := 2#32
  let v430 : BitVec 32 := Scalar.muli v5 c2_i32_279
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v432 : BitVec 32 := Scalar.muli v8 c1_i32_280
  let v433 : BitVec 32 := Scalar.addi v431 v432
  v433.toNat
def k0_dev23 (d0 : Dev nD) : Nat :=
  let c0_i32_286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_285 : BitVec 32 := 4#32
  let v440 : BitVec 32 := Scalar.muli v2 c4_i32_285
  let v441 : BitVec 32 := Scalar.addi c0_i32_286 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_287 : BitVec 32 := 2#32
  let v442 : BitVec 32 := Scalar.muli v5 c2_i32_287
  let v443 : BitVec 32 := Scalar.addi v441 v442
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_288 : BitVec 32 := 1#32
  let v444 : BitVec 32 := Scalar.muli v11 c1_i32_288
  let v445 : BitVec 32 := Scalar.addi v443 v444
  v445.toNat
def k0_dev24 (d0 : Dev nD) : Nat :=
  let c0_i32_311 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_310 : BitVec 32 := 4#32
  let v477 : BitVec 32 := Scalar.muli v10 c4_i32_310
  let v478 : BitVec 32 := Scalar.addi c0_i32_311 v477
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_312 : BitVec 32 := 2#32
  let v479 : BitVec 32 := Scalar.muli v5 c2_i32_312
  let v480 : BitVec 32 := Scalar.addi v478 v479
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_313 : BitVec 32 := 1#32
  let v481 : BitVec 32 := Scalar.muli v8 c1_i32_313
  let v482 : BitVec 32 := Scalar.addi v480 v481
  v482.toNat
def k0_dev25 (d0 : Dev nD) : Nat :=
  let c0_i32_319 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_318 : BitVec 32 := 4#32
  let v489 : BitVec 32 := Scalar.muli v2 c4_i32_318
  let v490 : BitVec 32 := Scalar.addi c0_i32_319 v489
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_320 : BitVec 32 := 2#32
  let v491 : BitVec 32 := Scalar.muli v5 c2_i32_320
  let v492 : BitVec 32 := Scalar.addi v490 v491
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_321 : BitVec 32 := 1#32
  let v493 : BitVec 32 := Scalar.muli v11 c1_i32_321
  let v494 : BitVec 32 := Scalar.addi v492 v493
  v494.toNat
def k0_dev26 (d0 : Dev nD) : Nat :=
  let c0_i32_344 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_343 : BitVec 32 := 4#32
  let v526 : BitVec 32 := Scalar.muli v10 c4_i32_343
  let v527 : BitVec 32 := Scalar.addi c0_i32_344 v526
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v528 : BitVec 32 := Scalar.muli v5 c2_i32_345
  let v529 : BitVec 32 := Scalar.addi v527 v528
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_346 : BitVec 32 := 1#32
  let v530 : BitVec 32 := Scalar.muli v8 c1_i32_346
  let v531 : BitVec 32 := Scalar.addi v529 v530
  v531.toNat
def k0_dev27 (d0 : Dev nD) : Nat :=
  let c0_i32_352 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_351 : BitVec 32 := 4#32
  let v538 : BitVec 32 := Scalar.muli v2 c4_i32_351
  let v539 : BitVec 32 := Scalar.addi c0_i32_352 v538
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_353 : BitVec 32 := 2#32
  let v540 : BitVec 32 := Scalar.muli v5 c2_i32_353
  let v541 : BitVec 32 := Scalar.addi v539 v540
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_354 : BitVec 32 := 1#32
  let v542 : BitVec 32 := Scalar.muli v11 c1_i32_354
  let v543 : BitVec 32 := Scalar.addi v541 v542
  v543.toNat
def k0_dev28 (d0 : Dev nD) : Nat :=
  let c0_i32_377 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_376 : BitVec 32 := 4#32
  let v575 : BitVec 32 := Scalar.muli v10 c4_i32_376
  let v576 : BitVec 32 := Scalar.addi c0_i32_377 v575
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_378 : BitVec 32 := 2#32
  let v577 : BitVec 32 := Scalar.muli v5 c2_i32_378
  let v578 : BitVec 32 := Scalar.addi v576 v577
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_379 : BitVec 32 := 1#32
  let v579 : BitVec 32 := Scalar.muli v8 c1_i32_379
  let v580 : BitVec 32 := Scalar.addi v578 v579
  v580.toNat
def k0_dev29 (d0 : Dev nD) : Nat :=
  let c0_i32_385 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_384 : BitVec 32 := 4#32
  let v587 : BitVec 32 := Scalar.muli v2 c4_i32_384
  let v588 : BitVec 32 := Scalar.addi c0_i32_385 v587
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v589 : BitVec 32 := Scalar.muli v5 c2_i32_386
  let v590 : BitVec 32 := Scalar.addi v588 v589
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_387 : BitVec 32 := 1#32
  let v591 : BitVec 32 := Scalar.muli v11 c1_i32_387
  let v592 : BitVec 32 := Scalar.addi v590 v591
  v592.toNat
def k0_dev30 (d0 : Dev nD) : Nat :=
  let c0_i32_410 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_409 : BitVec 32 := 4#32
  let v624 : BitVec 32 := Scalar.muli v10 c4_i32_409
  let v625 : BitVec 32 := Scalar.addi c0_i32_410 v624
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_411 : BitVec 32 := 2#32
  let v626 : BitVec 32 := Scalar.muli v5 c2_i32_411
  let v627 : BitVec 32 := Scalar.addi v625 v626
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_412 : BitVec 32 := 1#32
  let v628 : BitVec 32 := Scalar.muli v8 c1_i32_412
  let v629 : BitVec 32 := Scalar.addi v627 v628
  v629.toNat
def k0_dev31 (d0 : Dev nD) : Nat :=
  let c0_i32_418 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_417 : BitVec 32 := 4#32
  let v636 : BitVec 32 := Scalar.muli v2 c4_i32_417
  let v637 : BitVec 32 := Scalar.addi c0_i32_418 v636
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_419 : BitVec 32 := 2#32
  let v638 : BitVec 32 := Scalar.muli v5 c2_i32_419
  let v639 : BitVec 32 := Scalar.addi v637 v638
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_420 : BitVec 32 := 1#32
  let v640 : BitVec 32 := Scalar.muli v11 c1_i32_420
  let v641 : BitVec 32 := Scalar.addi v639 v640
  v641.toNat
def k0_dev32 (d0 : Dev nD) : Nat :=
  let c0_i32_443 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_442 : BitVec 32 := 4#32
  let v673 : BitVec 32 := Scalar.muli v10 c4_i32_442
  let v674 : BitVec 32 := Scalar.addi c0_i32_443 v673
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_444 : BitVec 32 := 2#32
  let v675 : BitVec 32 := Scalar.muli v5 c2_i32_444
  let v676 : BitVec 32 := Scalar.addi v674 v675
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_445 : BitVec 32 := 1#32
  let v677 : BitVec 32 := Scalar.muli v8 c1_i32_445
  let v678 : BitVec 32 := Scalar.addi v676 v677
  v678.toNat
def k0_dev33 (d0 : Dev nD) : Nat :=
  let c0_i32_451 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_450 : BitVec 32 := 4#32
  let v685 : BitVec 32 := Scalar.muli v2 c4_i32_450
  let v686 : BitVec 32 := Scalar.addi c0_i32_451 v685
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_452 : BitVec 32 := 2#32
  let v687 : BitVec 32 := Scalar.muli v5 c2_i32_452
  let v688 : BitVec 32 := Scalar.addi v686 v687
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_453 : BitVec 32 := 1#32
  let v689 : BitVec 32 := Scalar.muli v11 c1_i32_453
  let v690 : BitVec 32 := Scalar.addi v688 v689
  v690.toNat
def k0_dev34 (d0 : Dev nD) : Nat :=
  let c0_i32_476 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_475 : BitVec 32 := 4#32
  let v722 : BitVec 32 := Scalar.muli v10 c4_i32_475
  let v723 : BitVec 32 := Scalar.addi c0_i32_476 v722
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_477 : BitVec 32 := 2#32
  let v724 : BitVec 32 := Scalar.muli v5 c2_i32_477
  let v725 : BitVec 32 := Scalar.addi v723 v724
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_478 : BitVec 32 := 1#32
  let v726 : BitVec 32 := Scalar.muli v8 c1_i32_478
  let v727 : BitVec 32 := Scalar.addi v725 v726
  v727.toNat
def k0_dev35 (d0 : Dev nD) : Nat :=
  let c0_i32_484 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_483 : BitVec 32 := 4#32
  let v734 : BitVec 32 := Scalar.muli v2 c4_i32_483
  let v735 : BitVec 32 := Scalar.addi c0_i32_484 v734
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_485 : BitVec 32 := 2#32
  let v736 : BitVec 32 := Scalar.muli v5 c2_i32_485
  let v737 : BitVec 32 := Scalar.addi v735 v736
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_486 : BitVec 32 := 1#32
  let v738 : BitVec 32 := Scalar.muli v11 c1_i32_486
  let v739 : BitVec 32 := Scalar.addi v737 v738
  v739.toNat
def k0_dev36 (d0 : Dev nD) : Nat :=
  let c0_i32_509 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_508 : BitVec 32 := 4#32
  let v771 : BitVec 32 := Scalar.muli v10 c4_i32_508
  let v772 : BitVec 32 := Scalar.addi c0_i32_509 v771
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_510 : BitVec 32 := 2#32
  let v773 : BitVec 32 := Scalar.muli v5 c2_i32_510
  let v774 : BitVec 32 := Scalar.addi v772 v773
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_511 : BitVec 32 := 1#32
  let v775 : BitVec 32 := Scalar.muli v8 c1_i32_511
  let v776 : BitVec 32 := Scalar.addi v774 v775
  v776.toNat
def k0_dev37 (d0 : Dev nD) : Nat :=
  let c0_i32_517 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_516 : BitVec 32 := 4#32
  let v783 : BitVec 32 := Scalar.muli v2 c4_i32_516
  let v784 : BitVec 32 := Scalar.addi c0_i32_517 v783
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_518 : BitVec 32 := 2#32
  let v785 : BitVec 32 := Scalar.muli v5 c2_i32_518
  let v786 : BitVec 32 := Scalar.addi v784 v785
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_519 : BitVec 32 := 1#32
  let v787 : BitVec 32 := Scalar.muli v11 c1_i32_519
  let v788 : BitVec 32 := Scalar.addi v786 v787
  v788.toNat
def k0_dev38 (d0 : Dev nD) : Nat :=
  let c0_i32_542 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_541 : BitVec 32 := 4#32
  let v820 : BitVec 32 := Scalar.muli v10 c4_i32_541
  let v821 : BitVec 32 := Scalar.addi c0_i32_542 v820
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_543 : BitVec 32 := 2#32
  let v822 : BitVec 32 := Scalar.muli v5 c2_i32_543
  let v823 : BitVec 32 := Scalar.addi v821 v822
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_544 : BitVec 32 := 1#32
  let v824 : BitVec 32 := Scalar.muli v8 c1_i32_544
  let v825 : BitVec 32 := Scalar.addi v823 v824
  v825.toNat
def k0_dev39 (d0 : Dev nD) : Nat :=
  let c0_i32_550 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_549 : BitVec 32 := 4#32
  let v832 : BitVec 32 := Scalar.muli v2 c4_i32_549
  let v833 : BitVec 32 := Scalar.addi c0_i32_550 v832
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_551 : BitVec 32 := 2#32
  let v834 : BitVec 32 := Scalar.muli v5 c2_i32_551
  let v835 : BitVec 32 := Scalar.addi v833 v834
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_552 : BitVec 32 := 1#32
  let v836 : BitVec 32 := Scalar.muli v11 c1_i32_552
  let v837 : BitVec 32 := Scalar.addi v835 v836
  v837.toNat
def k0_dev40 (d0 : Dev nD) : Nat :=
  let c0_i32_575 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_574 : BitVec 32 := 4#32
  let v869 : BitVec 32 := Scalar.muli v10 c4_i32_574
  let v870 : BitVec 32 := Scalar.addi c0_i32_575 v869
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_576 : BitVec 32 := 2#32
  let v871 : BitVec 32 := Scalar.muli v5 c2_i32_576
  let v872 : BitVec 32 := Scalar.addi v870 v871
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_577 : BitVec 32 := 1#32
  let v873 : BitVec 32 := Scalar.muli v8 c1_i32_577
  let v874 : BitVec 32 := Scalar.addi v872 v873
  v874.toNat
def k0_dev41 (d0 : Dev nD) : Nat :=
  let c0_i32_583 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_582 : BitVec 32 := 4#32
  let v881 : BitVec 32 := Scalar.muli v2 c4_i32_582
  let v882 : BitVec 32 := Scalar.addi c0_i32_583 v881
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_584 : BitVec 32 := 2#32
  let v883 : BitVec 32 := Scalar.muli v5 c2_i32_584
  let v884 : BitVec 32 := Scalar.addi v882 v883
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_585 : BitVec 32 := 1#32
  let v885 : BitVec 32 := Scalar.muli v11 c1_i32_585
  let v886 : BitVec 32 := Scalar.addi v884 v885
  v886.toNat
def k0_dev42 (d0 : Dev nD) : Nat :=
  let c0_i32_608 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_607 : BitVec 32 := 4#32
  let v918 : BitVec 32 := Scalar.muli v10 c4_i32_607
  let v919 : BitVec 32 := Scalar.addi c0_i32_608 v918
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_609 : BitVec 32 := 2#32
  let v920 : BitVec 32 := Scalar.muli v5 c2_i32_609
  let v921 : BitVec 32 := Scalar.addi v919 v920
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_610 : BitVec 32 := 1#32
  let v922 : BitVec 32 := Scalar.muli v8 c1_i32_610
  let v923 : BitVec 32 := Scalar.addi v921 v922
  v923.toNat
def k0_dev43 (d0 : Dev nD) : Nat :=
  let c0_i32_616 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_615 : BitVec 32 := 4#32
  let v930 : BitVec 32 := Scalar.muli v2 c4_i32_615
  let v931 : BitVec 32 := Scalar.addi c0_i32_616 v930
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_617 : BitVec 32 := 2#32
  let v932 : BitVec 32 := Scalar.muli v5 c2_i32_617
  let v933 : BitVec 32 := Scalar.addi v931 v932
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_618 : BitVec 32 := 1#32
  let v934 : BitVec 32 := Scalar.muli v11 c1_i32_618
  let v935 : BitVec 32 := Scalar.addi v933 v934
  v935.toNat
def k0_off13 (d0 : Dev nD) (c0_i32_630 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1824_i32_629 : BitVec 32 := 1824#32
  let v952 : BitVec 32 := Scalar.muli v19 c1824_i32_629
  let v953 : BitVec 32 := Scalar.addi v952 c0_i32_630
  let c0_i32_637 : BitVec 32 := 0#32
  ![v953.toNat, 0]
def k0_dev44 (d0 : Dev nD) : Nat :=
  let c0_i32_634 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_633 : BitVec 32 := 4#32
  let v954 : BitVec 32 := Scalar.muli v10 c4_i32_633
  let v955 : BitVec 32 := Scalar.addi c0_i32_634 v954
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_635 : BitVec 32 := 2#32
  let v956 : BitVec 32 := Scalar.muli v5 c2_i32_635
  let v957 : BitVec 32 := Scalar.addi v955 v956
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_636 : BitVec 32 := 1#32
  let v958 : BitVec 32 := Scalar.muli v8 c1_i32_636
  let v959 : BitVec 32 := Scalar.addi v957 v958
  v959.toNat
def k0_off14 (d0 : Dev nD) (c152_i32_648 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1824_i32_647 : BitVec 32 := 1824#32
  let v976 : BitVec 32 := Scalar.muli v16 c1824_i32_647
  let v977 : BitVec 32 := Scalar.addi v976 c152_i32_648
  let c0_i32_655 : BitVec 32 := 0#32
  ![v977.toNat, 0]
def k0_dev45 (d0 : Dev nD) : Nat :=
  let c0_i32_652 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_651 : BitVec 32 := 4#32
  let v978 : BitVec 32 := Scalar.muli v2 c4_i32_651
  let v979 : BitVec 32 := Scalar.addi c0_i32_652 v978
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_653 : BitVec 32 := 2#32
  let v980 : BitVec 32 := Scalar.muli v5 c2_i32_653
  let v981 : BitVec 32 := Scalar.addi v979 v980
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_654 : BitVec 32 := 1#32
  let v982 : BitVec 32 := Scalar.muli v11 c1_i32_654
  let v983 : BitVec 32 := Scalar.addi v981 v982
  v983.toNat
def k0_dev46 (d0 : Dev nD) : Nat :=
  let c0_i32_670 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_669 : BitVec 32 := 4#32
  let v1002 : BitVec 32 := Scalar.muli v10 c4_i32_669
  let v1003 : BitVec 32 := Scalar.addi c0_i32_670 v1002
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_671 : BitVec 32 := 2#32
  let v1004 : BitVec 32 := Scalar.muli v5 c2_i32_671
  let v1005 : BitVec 32 := Scalar.addi v1003 v1004
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_672 : BitVec 32 := 1#32
  let v1006 : BitVec 32 := Scalar.muli v8 c1_i32_672
  let v1007 : BitVec 32 := Scalar.addi v1005 v1006
  v1007.toNat
def k0_dev47 (d0 : Dev nD) : Nat :=
  let c0_i32_688 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_687 : BitVec 32 := 4#32
  let v1026 : BitVec 32 := Scalar.muli v2 c4_i32_687
  let v1027 : BitVec 32 := Scalar.addi c0_i32_688 v1026
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_689 : BitVec 32 := 2#32
  let v1028 : BitVec 32 := Scalar.muli v5 c2_i32_689
  let v1029 : BitVec 32 := Scalar.addi v1027 v1028
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_690 : BitVec 32 := 1#32
  let v1030 : BitVec 32 := Scalar.muli v11 c1_i32_690
  let v1031 : BitVec 32 := Scalar.addi v1029 v1030
  v1031.toNat
def k0_dev48 (d0 : Dev nD) : Nat :=
  let c0_i32_706 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_705 : BitVec 32 := 4#32
  let v1050 : BitVec 32 := Scalar.muli v10 c4_i32_705
  let v1051 : BitVec 32 := Scalar.addi c0_i32_706 v1050
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_707 : BitVec 32 := 2#32
  let v1052 : BitVec 32 := Scalar.muli v5 c2_i32_707
  let v1053 : BitVec 32 := Scalar.addi v1051 v1052
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_708 : BitVec 32 := 1#32
  let v1054 : BitVec 32 := Scalar.muli v8 c1_i32_708
  let v1055 : BitVec 32 := Scalar.addi v1053 v1054
  v1055.toNat
def k0_dev49 (d0 : Dev nD) : Nat :=
  let c0_i32_724 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_723 : BitVec 32 := 4#32
  let v1074 : BitVec 32 := Scalar.muli v2 c4_i32_723
  let v1075 : BitVec 32 := Scalar.addi c0_i32_724 v1074
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_725 : BitVec 32 := 2#32
  let v1076 : BitVec 32 := Scalar.muli v5 c2_i32_725
  let v1077 : BitVec 32 := Scalar.addi v1075 v1076
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_726 : BitVec 32 := 1#32
  let v1078 : BitVec 32 := Scalar.muli v11 c1_i32_726
  let v1079 : BitVec 32 := Scalar.addi v1077 v1078
  v1079.toNat
def k0_dev50 (d0 : Dev nD) : Nat :=
  let c0_i32_742 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_741 : BitVec 32 := 4#32
  let v1098 : BitVec 32 := Scalar.muli v10 c4_i32_741
  let v1099 : BitVec 32 := Scalar.addi c0_i32_742 v1098
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_743 : BitVec 32 := 2#32
  let v1100 : BitVec 32 := Scalar.muli v5 c2_i32_743
  let v1101 : BitVec 32 := Scalar.addi v1099 v1100
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_744 : BitVec 32 := 1#32
  let v1102 : BitVec 32 := Scalar.muli v8 c1_i32_744
  let v1103 : BitVec 32 := Scalar.addi v1101 v1102
  v1103.toNat
def k0_dev51 (d0 : Dev nD) : Nat :=
  let c0_i32_760 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_759 : BitVec 32 := 4#32
  let v1122 : BitVec 32 := Scalar.muli v2 c4_i32_759
  let v1123 : BitVec 32 := Scalar.addi c0_i32_760 v1122
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_761 : BitVec 32 := 2#32
  let v1124 : BitVec 32 := Scalar.muli v5 c2_i32_761
  let v1125 : BitVec 32 := Scalar.addi v1123 v1124
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_762 : BitVec 32 := 1#32
  let v1126 : BitVec 32 := Scalar.muli v11 c1_i32_762
  let v1127 : BitVec 32 := Scalar.addi v1125 v1126
  v1127.toNat
def k0_dev52 (d0 : Dev nD) : Nat :=
  let c0_i32_778 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_777 : BitVec 32 := 4#32
  let v1146 : BitVec 32 := Scalar.muli v10 c4_i32_777
  let v1147 : BitVec 32 := Scalar.addi c0_i32_778 v1146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_779 : BitVec 32 := 2#32
  let v1148 : BitVec 32 := Scalar.muli v5 c2_i32_779
  let v1149 : BitVec 32 := Scalar.addi v1147 v1148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_780 : BitVec 32 := 1#32
  let v1150 : BitVec 32 := Scalar.muli v8 c1_i32_780
  let v1151 : BitVec 32 := Scalar.addi v1149 v1150
  v1151.toNat
def k0_dev53 (d0 : Dev nD) : Nat :=
  let c0_i32_796 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_795 : BitVec 32 := 4#32
  let v1170 : BitVec 32 := Scalar.muli v2 c4_i32_795
  let v1171 : BitVec 32 := Scalar.addi c0_i32_796 v1170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_797 : BitVec 32 := 2#32
  let v1172 : BitVec 32 := Scalar.muli v5 c2_i32_797
  let v1173 : BitVec 32 := Scalar.addi v1171 v1172
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_798 : BitVec 32 := 1#32
  let v1174 : BitVec 32 := Scalar.muli v11 c1_i32_798
  let v1175 : BitVec 32 := Scalar.addi v1173 v1174
  v1175.toNat
def k0_dev54 (d0 : Dev nD) : Nat :=
  let c0_i32_814 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_813 : BitVec 32 := 4#32
  let v1194 : BitVec 32 := Scalar.muli v10 c4_i32_813
  let v1195 : BitVec 32 := Scalar.addi c0_i32_814 v1194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_815 : BitVec 32 := 2#32
  let v1196 : BitVec 32 := Scalar.muli v5 c2_i32_815
  let v1197 : BitVec 32 := Scalar.addi v1195 v1196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_816 : BitVec 32 := 1#32
  let v1198 : BitVec 32 := Scalar.muli v8 c1_i32_816
  let v1199 : BitVec 32 := Scalar.addi v1197 v1198
  v1199.toNat
def k0_dev55 (d0 : Dev nD) : Nat :=
  let c0_i32_832 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_831 : BitVec 32 := 4#32
  let v1218 : BitVec 32 := Scalar.muli v2 c4_i32_831
  let v1219 : BitVec 32 := Scalar.addi c0_i32_832 v1218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_833 : BitVec 32 := 2#32
  let v1220 : BitVec 32 := Scalar.muli v5 c2_i32_833
  let v1221 : BitVec 32 := Scalar.addi v1219 v1220
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_834 : BitVec 32 := 1#32
  let v1222 : BitVec 32 := Scalar.muli v11 c1_i32_834
  let v1223 : BitVec 32 := Scalar.addi v1221 v1222
  v1223.toNat
abbrev stage0_0 : Fin 1 → Memref sig .tc .vmem S8192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KSame.lean ====
module

public import proofs.«01_k».proof.Proof.KText

@[expose] public section

noncomputable section

namespace Cert.Kernel.Own

open Idealize.ShloMosaic Idealize.ShloMosaic.TcCoe
open Idealize.SL Idealize.SL.Sem
open Cert.Kernel.Gen

variable {F : FTy → Type} [FloatOps F]

variable (arg0 : Memref sig .tc .hbm S1x8192x2048 .f32) (arg1 : Memref sig .tc .vmem S8192x1024 .f32) (arg2 : Memref sig .tc .vmem S2720x1024 .f32)
  (arg3 arg4 : DmaSems sig S12) (arg5 arg6 : DmaSems sig S4) (arg7 arg8 arg9 arg10 : DmaSems sig S12)
  (arg11 arg12 arg13 arg14 : DmaSems sig S6) (arg15 : DmaSems sig S16)

set_option maxRecDepth 200000 in
set_option maxHeartbeats 0 in
/-- The printed body is that program. -/
theorem body_eq_text (h0 : arg0.IsWhole) (h1 : arg1.IsWhole) (h2 : arg2.IsWhole) :
    cc0_body_skel (F := F) arg0 h0 arg1 h1 arg2 h2 arg3 arg4 arg5 arg6 arg7 arg8 arg9 arg10 arg11 arg12 arg13 arg14 arg15
      = text arg0 arg1 arg2 arg3 arg4 arg5 arg6 arg7 arg8 arg9 arg10 arg11 arg12 arg13 arg14 arg15 := by
  rfl

end Cert.Kernel.Own

end
-- ==== Proof.IText.lean ====
module

public import proofs.«01_k».proof.Proof.Gen.KernelIdeal
public import proofs.«01_k».proof.Proof.Gen.KernelIdeal.Skeleton

@[expose] public section

noncomputable section

namespace Cert.KernelIdeal.Own

open Idealize.ShloMosaic Idealize.ShloMosaic.TcCoe
open Idealize.SL Idealize.SL.Sem
open Cert.KernelIdeal.Gen

variable {F : FTy → Type} [FloatOps F]

/-! ## The kernel's text as loops -/

/-- A loop over a list: one program after the other. -/
def loop {ι : Type} (f : ι → Prog (TpuEff nD τ sig (Elt F) Λ₀ .tc) PUnit) : List ι → Prog (TpuEff nD τ sig (Elt F) Λ₀ .tc) PUnit
  | [] => pure ⟨⟩
  | i :: l => f i >>= fun _ => loop f l

/-- The indices of the twelve chunks of a block. -/
abbrev L12 : List (Fin 12) := [0, 1, 2, 3, 4, 5, 6, 7, 8, 9, 10, 11]
/-- The indices of the six pairs of chunks. -/
abbrev L6 : List (Fin 6) := [0, 1, 2, 3, 4, 5]
/-- The indices of the four chunks every device keeps. -/
abbrev L4 : List (Fin 4) := [0, 1, 2, 3]

/-- The neighbour across `y`. -/
abbrev pY (d : Dev nD) : Dev nD := ⟨k0_dev1 d, k0_dev1_lt d⟩
/-- The neighbour across `x`. -/
abbrev pX (d : Dev nD) : Dev nD := ⟨k0_dev2 d, k0_dev2_lt d⟩
/-- The neighbour across `z`. -/
abbrev pZ (d : Dev nD) : Dev nD := ⟨k0_dev3 d, k0_dev3_lt d⟩

/-- One semaphore lies within an array of twelve. -/
theorem fits12 (c : Fin 12) : ∀ a, (![c.val] : Fin 1 → Nat) a + S1.size a ≤ S12.size a := by
  revert c; decide
/-- One semaphore lies within an array of four. -/
theorem fits4 (c : Fin 4) : ∀ a, (![c.val] : Fin 1 → Nat) a + S1.size a ≤ S4.size a := by
  revert c; decide
/-- One semaphore lies within an array of six. -/
theorem fits6 (c : Fin 6) : ∀ a, (![c.val] : Fin 1 → Nat) a + S1.size a ≤ S6.size a := by
  revert c; decide
/-- One semaphore lies within an array of sixteen. -/
theorem fits16 (c : Fin 16) : ∀ a, (![c.val] : Fin 1 → Nat) a + S1.size a ≤ S16.size a := by
  revert c; decide

/-- One semaphore of an array of twelve. -/
abbrev s12 (a : DmaSems sig S12) (c : Fin 12) : DmaSem sig :=
  ((a.slice (Rect.unit (s := S12) ![c.val] S1.size (fits12 c))).squeeze S_ squeezes_S1_S_).sem
/-- One semaphore of an array of four. -/
abbrev s4 (a : DmaSems sig S4) (c : Fin 4) : DmaSem sig :=
  ((a.slice (Rect.unit (s := S4) ![c.val] S1.size (fits4 c))).squeeze S_ squeezes_S1_S_).sem
/-- One semaphore of an array of six. -/
abbrev s6 (a : DmaSems sig S6) (c : Fin 6) : DmaSem sig :=
  ((a.slice (Rect.unit (s := S6) ![c.val] S1.size (fits6 c))).squeeze S_ squeezes_S1_S_).sem
/-- One semaphore of an array of sixteen. -/
abbrev s16 (a : DmaSems sig S16) (c : Fin 16) : DmaSem sig :=
  ((a.slice (Rect.unit (s := S16) ![c.val] S1.size (fits16 c))).squeeze S_ squeezes_S1_S_).sem

/-- The chunk's place among the sixteen local copies. -/
abbrev lo16 (c : Fin 12) : Fin 16 := ⟨c.val, by omega⟩
/-- The kept chunk's place among the sixteen local copies. -/
abbrev hi16 (j : Fin 4) : Fin 16 := ⟨12 + j.val, by omega⟩

section Text
variable (arg0 : Memref sig .tc .hbm S1x8192x2048 .f32) (arg1 : Memref sig .tc .vmem S8192x1024 .f32) (arg2 : Memref sig .tc .vmem S2720x1024 .f32)
  (arg3 arg4 : DmaSems sig S12) (arg5 arg6 : DmaSems sig S4) (arg7 arg8 arg9 arg10 : DmaSems sig S12)
  (arg11 arg12 arg13 arg14 : DmaSems sig S6) (arg15 : DmaSems sig S16)

/-- Chunk `c` of the device's own block in the result. -/
abbrev oC (d : Dev nD) (c : Fin 12) : Memref sig .tc .vmem S152x1024 .f32 :=
  arg1.slice (Rect.unit (s := S8192x1024) (k0_off1 d (BitVec.ofNat 32 (152 * c.val))) S152x1024.size (k0_off1_inb d c)) (fun _ => rfl)
/-- The even chunk `2 i` of the block of the neighbour across `z`. -/
abbrev oE (d : Dev nD) (i : Fin 6) : Memref sig .tc .vmem S152x1024 .f32 :=
  arg1.slice (Rect.unit (s := S8192x1024) (k0_off13 d (BitVec.ofNat 32 (304 * i.val))) S152x1024.size (k0_off13_inb d i)) (fun _ => rfl)
/-- The odd chunk `2 i + 1` of the block of the neighbour across `x`. -/
abbrev oO (d : Dev nD) (i : Fin 6) : Memref sig .tc .vmem S152x1024 .f32 :=
  arg1.slice (Rect.unit (s := S8192x1024) (k0_off14 d (BitVec.ofNat 32 (152 + 304 * i.val))) S152x1024.size (k0_off14_inb d i)) (fun _ => rfl)

/-- A kept chunk lies within the result. -/
theorem fitsU (j : Fin 4) : ∀ a, (![7296 + 224 * j.val, 0] : Fin 2 → Nat) a + S224x1024.size a ≤ S8192x1024.size a := by
  revert j; decide
/-- A chunk of the block lies within the scratch copy. -/
theorem fitsV (c : Fin 12) : ∀ a, (![152 * c.val, 0] : Fin 2 → Nat) a + S152x1024.size a ≤ S2720x1024.size a := by
  revert c; decide
/-- A kept chunk lies within the scratch copy. -/
theorem fitsVU (j : Fin 4) : ∀ a, (![1824 + 224 * j.val, 0] : Fin 2 → Nat) a + S224x1024.size a ≤ S2720x1024.size a := by
  revert j; decide

/-- Kept chunk `j` in the result. -/
abbrev oU (j : Fin 4) : Memref sig .tc .vmem S224x1024 .f32 :=
  arg1.slice (Rect.unit (s := S8192x1024) ![7296 + 224 * j.val, 0] S224x1024.size (fitsU j)) (fun _ => rfl)
/-- Chunk `c` in the scratch copy. -/
abbrev vC (c : Fin 12) : Memref sig .tc .vmem S152x1024 .f32 :=
  arg2.slice (Rect.unit (s := S2720x1024) ![152 * c.val, 0] S152x1024.size (fitsV c)) (fun _ => rfl)
/-- Kept chunk `j` in the scratch copy. -/
abbrev vU (j : Fin 4) : Memref sig .tc .vmem S224x1024 .f32 :=
  arg2.slice (Rect.unit (s := S2720x1024) ![1824 + 224 * j.val, 0] S224x1024.size (fitsVU j)) (fun _ => rfl)

/-- Chunk `c` of the columns the neighbour across `y` keeps. -/
abbrev xP (d : Dev nD) (c : Fin 12) : Memref sig .tc .hbm S152x1024 .f32 :=
  (arg0.slice (Rect.unit (s := S1x8192x2048) (k0_off2 d (BitVec.ofNat 32 (152 * c.val))) S1x152x1024.size (k0_off2_inb d c)) (fun _ => rfl)).squeeze S152x1024 squeezes_S1x152x1024_S152x1024
/-- Chunk `c` of the columns the device keeps. -/
abbrev xM (d : Dev nD) (c : Fin 12) : Memref sig .tc .hbm S152x1024 .f32 :=
  (arg0.slice (Rect.unit (s := S1x8192x2048) (k0_off3 d (BitVec.ofNat 32 (152 * c.val))) S1x152x1024.size (k0_off3_inb d c)) (fun _ => rfl)).squeeze S152x1024 squeezes_S1x152x1024_S152x1024

/-- Where kept chunk `j` of the neighbour's columns starts in the argument. -/
def offUP (d : Dev nD) : Fin 4 → Fin 3 → Nat
  | 0 => k0_off4 d
  | 1 => k0_off6 d
  | 2 => k0_off8 d
  | 3 => k0_off10 d
/-- A kept chunk of the neighbour's columns lies within the argument. -/
theorem offUP_inb (d : Dev nD) (j : Fin 4) : ∀ a, offUP d j a + S1x224x1024.size a ≤ S1x8192x2048.size a :=
  match j with
  | 0 => k0_off4_inb d
  | 1 => k0_off6_inb d
  | 2 => k0_off8_inb d
  | 3 => k0_off10_inb d
/-- Where kept chunk `j` of the device's own columns starts in the argument. -/
def offUM (d : Dev nD) : Fin 4 → Fin 3 → Nat
  | 0 => k0_off5 d
  | 1 => k0_off7 d
  | 2 => k0_off9 d
  | 3 => k0_off11 d
/-- A kept chunk of the device's own columns lies within the argument. -/
theorem offUM_inb (d : Dev nD) (j : Fin 4) : ∀ a, offUM d j a + S1x224x1024.size a ≤ S1x8192x2048.size a :=
  match j with
  | 0 => k0_off5_inb d
  | 1 => k0_off7_inb d
  | 2 => k0_off9_inb d
  | 3 => k0_off11_inb d

/-- Kept chunk `j` of the columns the neighbour across `y` keeps. -/
abbrev xUP (d : Dev nD) (j : Fin 4) : Memref sig .tc .hbm S224x1024 .f32 :=
  (arg0.slice (Rect.unit (s := S1x8192x2048) (offUP d j) S1x224x1024.size (offUP_inb d j)) (fun _ => rfl)).squeeze S224x1024 squeezes_S1x224x1024_S224x1024
/-- Kept chunk `j` of the columns the device keeps. -/
abbrev xUM (d : Dev nD) (j : Fin 4) : Memref sig .tc .hbm S224x1024 .f32 :=
  (arg0.slice (Rect.unit (s := S1x8192x2048) (offUM d j) S1x224x1024.size (offUM_inb d j)) (fun _ => rfl)).squeeze S224x1024 squeezes_S1x224x1024_S224x1024

/-- The barrier semaphore. -/
abbrev barS : Sem sig := (SemArray.scalar (sig.barrier 0 rfl) : Sems sig S_).sem

/-- Announce to the three neighbours and hear the three of them. -/
def meet (d : Dev nD) : Prog (TpuEff nD τ sig (Elt F) Λ₀ .tc) PUnit := do
  semSignalWord (pY d) barS 1#32
  semSignalWord (pX d) barS 1#32
  semSignalWord (pZ d) barS 1#32
  semWaitWord barS 3#32

/-- Start the copies of chunk `c`. -/
def startC (d : Dev nD) (c : Fin 12) : Prog (TpuEff nD τ sig (Elt F) Λ₀ .tc) PUnit := do
  Prog.lift (.enqueueDma (xP arg0 d c) (.remote (Dev.tc (pY d)) (oC arg1 d c) (.dma (s12 arg3 c))) (.dma (s12 arg4 c)) ((View.wordExact_bits rfl).reshape _ _) (View.wordExact_bits rfl) ⟨⟨rfl, Or.inl rfl⟩, trivial⟩)
  Prog.lift (.enqueueDma (xM arg0 d c) (.here (vC arg2 c)) (.dma (s16 arg15 (lo16 c))) ((View.wordExact_bits rfl).reshape _ _) (View.wordExact_bits rfl) ⟨Or.inl rfl, trivial⟩)

/-- Start the copies of kept chunk `j`. -/
def startU (d : Dev nD) (j : Fin 4) : Prog (TpuEff nD τ sig (Elt F) Λ₀ .tc) PUnit := do
  Prog.lift (.enqueueDma (xUP arg0 d j) (.remote (Dev.tc (pY d)) (oU arg1 j) (.dma (s4 arg5 j))) (.dma (s4 arg6 j)) ((View.wordExact_bits rfl).reshape _ _) (View.wordExact_bits rfl) ⟨⟨rfl, Or.inl rfl⟩, trivial⟩)
  Prog.lift (.enqueueDma (xUM arg0 d j) (.here (vU arg2 j)) (.dma (s16 arg15 (hi16 j))) ((View.wordExact_bits rfl).reshape _ _) (View.wordExact_bits rfl) ⟨Or.inl rfl, trivial⟩)

/-- Add the two parts of chunk `c` and hand the sum to two neighbours. -/
def sumC (d : Dev nD) (c : Fin 12) : Prog (TpuEff nD τ sig (Elt F) Λ₀ .tc) PUnit := do
  Prog.lift (.waitDma2 (s12 arg4 c) (xP arg0 d c) (oC arg1 d c) ((View.wordExact_bits rfl).reshape _ _) (View.wordExact_bits rfl))
  Prog.lift (.waitDma2 (s16 arg15 (lo16 c)) (xM arg0 d c) (vC arg2 c) ((View.wordExact_bits rfl).reshape _ _) (View.wordExact_bits rfl))
  let v : Vec F S152x1024 .f32 ← Prog.lift (.load arg1 (Rect.unit (s := S8192x1024) (k0_off12 d (BitVec.ofNat 32 (152 * c.val))) S152x1024.size (k0_off12_inb d c)).toLoadRect (View.loadsAt_vmem h_S152x1024))
  let w : Vec F S152x1024 .f32 ← Prog.lift (.load arg2 (Rect.unit (s := S2720x1024) ![152 * c.val, 0] S152x1024.size (fitsV c)).toLoadRect (View.loadsAt_vmem h_S152x1024))
  let _u : Vec F S152x1024 .f32 ← Prog.lift (.load arg1 (Rect.unit (s := S8192x1024) (k0_off12 d (BitVec.ofNat 32 (152 * c.val))) S152x1024.size (k0_off12_inb d c)).toLoadRect (View.loadsAt_vmem h_S152x1024))
  Prog.lift (.store arg1 (Rect.unit (s := S8192x1024) (k0_off12 d (BitVec.ofNat 32 (152 * c.val))) S152x1024.size (k0_off12_inb d c)) (k0_pay1 v w) Finset.univ (View.stores_vmem_bits_univ h_S152x1024 rfl) (.inl rfl))
  Prog.lift (.enqueueDma (oC arg1 d c) (.remote (Dev.tc (pX d)) (oC arg1 d c) (.dma (s12 arg7 c))) (.dma (s12 arg8 c)) (View.wordExact_bits rfl) (View.wordExact_bits rfl) ⟨⟨rfl, Or.inl rfl⟩, trivial⟩)
  Prog.lift (.enqueueDma (oC arg1 d c) (.remote (Dev.tc (pZ d)) (oC arg1 d c) (.dma (s12 arg9 c))) (.dma (s12 arg10 c)) (View.wordExact_bits rfl) (View.wordExact_bits rfl) ⟨⟨rfl, Or.inl rfl⟩, trivial⟩)

/-- The even chunk of a pair. -/
abbrev ev (i : Fin 6) : Fin 12 := ⟨2 * i.val, by omega⟩
/-- The odd chunk of a pair. -/
abbrev od (i : Fin 6) : Fin 12 := ⟨2 * i.val + 1, by omega⟩

/-- Pass on one pair of chunks: the even one across `x`, the odd one across `z`. -/
def passOn (d : Dev nD) (i : Fin 6) : Prog (TpuEff nD τ sig (Elt F) Λ₀ .tc) PUnit := do
  Prog.lift (.waitDma2 (s12 arg10 (ev i)) (oC arg1 d (ev i)) (oC arg1 d (ev i)) (View.wordExact_bits rfl) (View.wordExact_bits rfl))
  Prog.lift (.enqueueDma (oE arg1 d i) (.remote (Dev.tc (pX d)) (oE arg1 d i) (.dma (s6 arg11 i))) (.dma (s6 arg12 i)) (View.wordExact_bits rfl) (View.wordExact_bits rfl) ⟨⟨rfl, Or.inl rfl⟩, trivial⟩)
  Prog.lift (.waitDma2 (s12 arg8 (od i)) (oC arg1 d (od i)) (oC arg1 d (od i)) (View.wordExact_bits rfl) (View.wordExact_bits rfl))
  Prog.lift (.enqueueDma (oO arg1 d i) (.remote (Dev.tc (pZ d)) (oO arg1 d i) (.dma (s6 arg13 i))) (.dma (s6 arg14 i)) (View.wordExact_bits rfl) (View.wordExact_bits rfl) ⟨⟨rfl, Or.inl rfl⟩, trivial⟩)

/-- Add the two parts of kept chunk `j`. -/
def sumU (d : Dev nD) (j : Fin 4) : Prog (TpuEff nD τ sig (Elt F) Λ₀ .tc) PUnit := do
  Prog.lift (.waitDma2 (s4 arg6 j) (xUP arg0 d j) (oU arg1 j) ((View.wordExact_bits rfl).reshape _ _) (View.wordExact_bits rfl))
  Prog.lift (.waitDma2 (s16 arg15 (hi16 j)) (xUM arg0 d j) (vU arg2 j) ((View.wordExact_bits rfl).reshape _ _) (View.wordExact_bits rfl))
  let v : Vec F S224x1024 .f32 ← Prog.lift (.load arg1 (Rect.unit (s := S8192x1024) ![7296 + 224 * j.val, 0] S224x1024.size (fitsU j)).toLoadRect (View.loadsAt_vmem h_S224x1024))
  let w : Vec F S224x1024 .f32 ← Prog.lift (.load arg2 (Rect.unit (s := S2720x1024) ![1824 + 224 * j.val, 0] S224x1024.size (fitsVU j)).toLoadRect (View.loadsAt_vmem h_S224x1024))
  let _u : Vec F S224x1024 .f32 ← Prog.lift (.load arg1 (Rect.unit (s := S8192x1024) ![7296 + 224 * j.val, 0] S224x1024.size (fitsU j)).toLoadRect (View.loadsAt_vmem h_S224x1024))
  Prog.lift (.store arg1 (Rect.unit (s := S8192x1024) ![7296 + 224 * j.val, 0] S224x1024.size (fitsU j)) (k0_pay14 v w) Finset.univ (View.stores_vmem_bits_univ h_S224x1024 rfl) (.inl rfl))

/-- Wait for the other halves of the neighbours' blocks. -/
def hearB (d : Dev nD) (i : Fin 6) : Prog (TpuEff nD τ sig (Elt F) Λ₀ .tc) PUnit := do
  Prog.lift (.waitDma2 (s12 arg8 (ev i)) (oC arg1 d (ev i)) (oC arg1 d (ev i)) (View.wordExact_bits rfl) (View.wordExact_bits rfl))
  Prog.lift (.waitDma2 (s12 arg10 (od i)) (oC arg1 d (od i)) (oC arg1 d (od i)) (View.wordExact_bits rfl) (View.wordExact_bits rfl))

/-- Wait for one pair of chunks passed on. -/
def hearF (d : Dev nD) (i : Fin 6) : Prog (TpuEff nD τ sig (Elt F) Λ₀ .tc) PUnit := do
  Prog.lift (.waitDma2 (s6 arg12 i) (oE arg1 d i) (oE arg1 d i) (View.wordExact_bits rfl) (View.wordExact_bits rfl))
  Prog.lift (.waitDma2 (s6 arg14 i) (oO arg1 d i) (oO arg1 d i) (View.wordExact_bits rfl) (View.wordExact_bits rfl))

/-- Wait until a chunk has left for the neighbour across `y`. -/
def leftY (d : Dev nD) (c : Fin 12) : Prog (TpuEff nD τ sig (Elt F) Λ₀ .tc) PUnit :=
  Prog.lift (.waitDma2 (s12 arg3 c) (oC arg1 d c) (xP arg0 d c) (View.wordExact_bits rfl) ((View.wordExact_bits rfl).reshape _ _))
/-- Wait until a kept chunk has left for the neighbour across `y`. -/
def leftU (d : Dev nD) (j : Fin 4) : Prog (TpuEff nD τ sig (Elt F) Λ₀ .tc) PUnit :=
  Prog.lift (.waitDma2 (s4 arg5 j) (oU arg1 j) (xUP arg0 d j) (View.wordExact_bits rfl) ((View.wordExact_bits rfl).reshape _ _))
/-- Wait until a chunk of the own block has left for a neighbour. -/
def leftB (a : DmaSems sig S12) (d : Dev nD) (c : Fin 12) : Prog (TpuEff nD τ sig (Elt F) Λ₀ .tc) PUnit :=
  Prog.lift (.waitDma2 (s12 a c) (oC arg1 d c) (oC arg1 d c) (View.wordExact_bits rfl) (View.wordExact_bits rfl))
/-- Wait until a pair of chunks has been passed on. -/
def leftF (d : Dev nD) (i : Fin 6) : Prog (TpuEff nD τ sig (Elt F) Λ₀ .tc) PUnit := do
  Prog.lift (.waitDma2 (s6 arg11 i) (oE arg1 d i) (oE arg1 d i) (View.wordExact_bits rfl) (View.wordExact_bits rfl))
  Prog.lift (.waitDma2 (s6 arg13 i) (oO arg1 d i) (oO arg1 d i) (View.wordExact_bits rfl) (View.wordExact_bits rfl))

/-- The kernel's body, as loops over its chunks. -/
def text : Prog (TpuEff nD τ sig (Elt F) Λ₀ .tc) PUnit := do
  let d : Dev nD ← Prog.lift .deviceId
  meet d
  loop (startC arg0 arg1 arg2 arg3 arg4 arg15 d) L12
  loop (startU arg0 arg1 arg2 arg5 arg6 arg15 d) L4
  loop (sumC arg0 arg1 arg2 arg4 arg7 arg8 arg9 arg10 arg15 d) L12
  loop (passOn arg1 arg8 arg10 arg11 arg12 arg13 arg14 d) L6
  loop (sumU arg0 arg1 arg2 arg6 arg15 d) L4
  loop (hearB arg1 arg8 arg10 d) L6
  loop (hearF arg1 arg12 arg14 d) L6
  loop (leftY arg0 arg1 arg3 d) L12
  loop (leftU arg0 arg1 arg5 d) L4
  loop (leftB arg1 arg7 d) L12
  loop (leftB arg1 arg9 d) L12
  loop (leftF arg1 arg11 arg13 d) L6

end Text

end Cert.KernelIdeal.Own

end
-- ==== Proof.ICells.lean ====
module

public import proofs.«01_k».proof.Proof.IText
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- Rounds over the kernel's own semaphores; a cell's round has at most three payers. -/
abbrev UB : Type := URounds (GSem nD τ sig) (Fin 3)
/-- The staging library's rounds beside the kernel's own. -/
abbrev UU : Type := UR sig nD τ × UB

local notation "𝕄" => MT nD τ sig Unit (Elt F) ℕ UU ℕ

/-- Where the staging library's part sits. -/
abbrev EP : Emb (UR sig nD τ) (MT nD τ sig Unit (Elt F) ℕ UU ℕ) := embL
/-- Where the kernel's own part sits. -/
abbrev ER : Emb UB (MT nD τ sig Unit (Elt F) ℕ UU ℕ) := embR

/-! ## Chains over a list -/

/-- The assertions at the members of a list, side by side. -/
def row {ι : Type} (Φ : ι → sProp 𝕄) : List ι → sProp 𝕄
  | [] => iprop(emp)
  | i :: l => iprop(Φ i ∗ row Φ l)

section Row
variable {ι κ : Type}

omit [FloatOps F] in
/-- The separating conjunction is associative, as an equation. -/
theorem sep_assoc_eq (P Q R : sProp 𝕄) : iprop((P ∗ Q) ∗ R) = iprop(P ∗ Q ∗ R) := equiv_iff.mp ⟨BI.sep_assoc, BI.sep_assoc'⟩
omit [FloatOps F] in
/-- Nothing beside `P` is `P`. -/
theorem emp_sep_eq (P : sProp 𝕄) : iprop(emp ∗ P) = P := equiv_iff.mp BI.emp_sep
omit [FloatOps F] in
/-- The separating conjunction is commutative, as an equation. -/
theorem sep_comm_eq (P Q : sProp 𝕄) : iprop(P ∗ Q) = iprop(Q ∗ P) := equiv_iff.mp ⟨BI.sep_comm, BI.sep_comm⟩

omit [FloatOps F] in
/-- A chain over a list without repetition that has every index is the conjunction over all indices. -/
theorem row_univ [Fintype ι] [DecidableEq ι] (l : List ι) (hn : l.Nodup) (hm : ∀ i, i ∈ l) (Φ : ι → sProp 𝕄) :
    bigSep Finset.univ Φ = row Φ l := by
  have h : ∀ l : List ι, l.Nodup → bigSep l.toFinset Φ = row Φ l := by
    intro l
    induction l with
    | nil => intro _; rfl
    | cons i l ih =>
      intro hn
      rw [List.nodup_cons] at hn
      rw [List.toFinset_cons, bigSep_insert (by rw [List.mem_toFinset]; exact hn.1), ih hn.2]; rfl
  rw [← h l hn]
  congr 1
  ext i; simp [hm i]

omit [FloatOps F] in
/-- A chain over two lists in turn is the two chains. -/
theorem row_append (Φ : ι → sProp 𝕄) (l l' : List ι) : row Φ (l ++ l') = iprop(row Φ l ∗ row Φ l') := by
  induction l with
  | nil => exact (emp_sep_eq _).symm
  | cons i l ih => show iprop(Φ i ∗ row Φ (l ++ l')) = iprop((Φ i ∗ row Φ l) ∗ row Φ l'); rw [ih, sep_assoc_eq]

omit [FloatOps F] in
/-- A chain over the images of a list is the chain of the composed family. -/
theorem row_map (Φ : κ → sProp 𝕄) (f : ι → κ) (l : List ι) : row Φ (l.map f) = row (fun i => Φ (f i)) l := by
  induction l with
  | nil => rfl
  | cons i l ih => show iprop(Φ (f i) ∗ row Φ (l.map f)) = iprop(Φ (f i) ∗ row (fun i => Φ (f i)) l); rw [ih]

omit [FloatOps F] in
/-- A chain of pairs is a pair of chains. -/
theorem row_sep (Φ Ψ : ι → sProp 𝕄) (l : List ι) : row (fun i => iprop(Φ i ∗ Ψ i)) l = iprop(row Φ l ∗ row Ψ l) := by
  induction l with
  | nil => exact (emp_sep_eq _).symm
  | cons i l ih =>
    show iprop((Φ i ∗ Ψ i) ∗ row (fun i => iprop(Φ i ∗ Ψ i)) l) = iprop((Φ i ∗ row Φ l) ∗ (Ψ i ∗ row Ψ l))
    rw [ih, sep_assoc_eq, sep_assoc_eq, ← sep_assoc_eq (Ψ i), sep_comm_eq (Ψ i) (row Φ l), sep_assoc_eq]

omit [FloatOps F] in
/-- A chain follows member by member. -/
theorem row_mono {Φ Ψ : ι → sProp 𝕄} (l : List ι) (h : ∀ i, Φ i ⊢ Ψ i) : row Φ l ⊢ row Ψ l := by
  induction l with
  | nil => exact BI.Entails.refl _
  | cons i l ih => exact BI.sep_mono (h i) ih

omit [FloatOps F] in
/-- Equal members make equal chains. -/
theorem row_congr {Φ Ψ : ι → sProp 𝕄} (l : List ι) (h : ∀ i, Φ i = Ψ i) : row Φ l = row Ψ l := by
  rw [funext h]

omit [FloatOps F] in
/-- What can be had twice can be had at every member of a list, and once more. -/
theorem row_copies {P : sProp 𝕄} (h : P ⊢ iprop(P ∗ P)) (l : List ι) : P ⊢ iprop(P ∗ row (fun _ => P) l) := by
  induction l with
  | nil => show P ⊢ iprop(P ∗ emp); iintro H; isplitl [H]; · iexact H
           iempintro
  | cons i l ih =>
    show P ⊢ iprop(P ∗ P ∗ row (fun _ => P) l)
    refine h.trans ?_
    iintro ⟨H1, H2⟩
    ihave H := ih $$ H2
    icases H with ⟨H2, Hr⟩
    isplitl [H1]; · iexact H1
    isplitl [H2] <;> iassumption

/-- A chain of assertions that an invariant can keep is one. -/
instance row_storable {Φ : ι → sProp 𝕄} [h : ∀ i, BI.Storable (upEmb : UEmb _ 𝕄) (Φ i)] (l : List ι) : BI.Storable (upEmb : UEmb _ 𝕄) (row Φ l) := by
  induction l with
  | nil => show BI.Storable (upEmb : UEmb _ 𝕄) iprop(emp); infer_instance
  | cons i l ih => show BI.Storable (upEmb : UEmb _ 𝕄) iprop(Φ i ∗ row Φ l); infer_instance
end Row

/-! ## The kernel's semaphores, by what they are for -/

/-- What a DMA semaphore of the kernel counts: a chunk sent (`s…`) or received (`r…`) across `y` (`…Y`, kept chunks `…U`),
    across `x` or `z` (`…X`, `…Z`), passed on across `x` or `z` (`…E`, `…O`), or copied locally (`kC`, `kU`). -/
inductive Kd where
  | sY (c : Fin 12) | rY (c : Fin 12) | sU (j : Fin 4) | rU (j : Fin 4)
  | sX (c : Fin 12) | rX (c : Fin 12) | sZ (c : Fin 12) | rZ (c : Fin 12)
  | sE (i : Fin 6) | rE (i : Fin 6) | sO (i : Fin 6) | rO (i : Fin 6)
  | kC (c : Fin 12) | kU (j : Fin 4)
  deriving DecidableEq

open Kd

/-- The semaphore's number. -/
def num : Kd → DmaSem sig
  | sY c => ⟨1 + c.val, by have := c.isLt; show _ < 121; omega⟩
  | rY c => ⟨13 + c.val, by have := c.isLt; show _ < 121; omega⟩
  | sU j => ⟨25 + j.val, by have := j.isLt; show _ < 121; omega⟩
  | rU j => ⟨29 + j.val, by have := j.isLt; show _ < 121; omega⟩
  | sX c => ⟨33 + c.val, by have := c.isLt; show _ < 121; omega⟩
  | rX c => ⟨45 + c.val, by have := c.isLt; show _ < 121; omega⟩
  | sZ c => ⟨57 + c.val, by have := c.isLt; show _ < 121; omega⟩
  | rZ c => ⟨69 + c.val, by have := c.isLt; show _ < 121; omega⟩
  | sE i => ⟨81 + i.val, by have := i.isLt; show _ < 121; omega⟩
  | rE i => ⟨87 + i.val, by have := i.isLt; show _ < 121; omega⟩
  | sO i => ⟨93 + i.val, by have := i.isLt; show _ < 121; omega⟩
  | rO i => ⟨99 + i.val, by have := i.isLt; show _ < 121; omega⟩
  | kC c => ⟨105 + c.val, by have := c.isLt; show _ < 121; omega⟩
  | kU j => ⟨117 + j.val, by have := j.isLt; show _ < 121; omega⟩

/-- All of them. -/
def kinds : List Kd :=
  L12.map sY ++ L12.map rY ++ L4.map sU ++ L4.map rU ++ L12.map sX ++ L12.map rX ++ L12.map sZ ++ L12.map rZ
    ++ L6.map sE ++ L6.map rE ++ L6.map sO ++ L6.map rO ++ L12.map kC ++ L4.map kU

/-- No kind is listed twice. -/
theorem kinds_nodup : kinds.Nodup := by decide +kernel
/-- Every kind is listed. -/
theorem mem_kinds (k : Kd) : k ∈ kinds := by
  cases k <;> rename_i i <;> revert i <;> decide +kernel
/-- The kinds are finitely many. -/
instance : Fintype Kd := ⟨⟨kinds, kinds_nodup⟩, mem_kinds⟩

/-- Different kinds have different semaphores. -/
theorem num_inj : Function.Injective num := by
  have h : (kinds.map num).Nodup := by decide +kernel
  intro a b e
  exact List.inj_on_of_nodup_map h (mem_kinds a) (mem_kinds b) e

/-- No kind has semaphore 0, which the result's staging uses. -/
theorem num_ne_zero (k : Kd) : num k ≠ (0 : Fin 121) := by
  cases k <;> (intro h; have := congrArg Fin.val h; simp only [num] at this; revert this; show _ = 0 → False; omega)

/-- What the semaphore of a number is for, if it is one of these. -/
def kindOf (n : DmaSem sig) : Option Kd := if h : ∃ k, num k = n then some h.choose else none

/-- A kind's semaphore has that kind. -/
theorem kindOf_num (k : Kd) : kindOf (num k) = some k := by
  unfold kindOf
  have h : ∃ k', num k' = num k := ⟨k, rfl⟩
  rw [dif_pos h]; exact congrArg some (num_inj h.choose_spec)

/-- Semaphore 0 has no kind. -/
theorem kindOf_zero : kindOf (0 : Fin 121) = none := by
  unfold kindOf
  exact dif_neg fun ⟨k, h⟩ => num_ne_zero k h

/-- The semaphore of the text that counts the sends of chunks across `y`. -/
theorem sem_sY (c : Fin 12) : s12 cc0_scratch1 c = num (sY c) := by revert c; decide
/-- The semaphore of the text that counts the chunks that come across `y`. -/
theorem sem_rY (c : Fin 12) : s12 cc0_scratch2 c = num (rY c) := by revert c; decide
/-- The semaphore of the text that counts the sends of kept chunks across `y`. -/
theorem sem_sU (j : Fin 4) : s4 cc0_scratch3 j = num (sU j) := by revert j; decide
/-- The semaphore of the text that counts the kept chunks that come across `y`. -/
theorem sem_rU (j : Fin 4) : s4 cc0_scratch4 j = num (rU j) := by revert j; decide
/-- The semaphore of the text that counts the sends of summed chunks across `x`. -/
theorem sem_sX (c : Fin 12) : s12 cc0_scratch5 c = num (sX c) := by revert c; decide
/-- The semaphore of the text that counts the summed chunks that come across `x`. -/
theorem sem_rX (c : Fin 12) : s12 cc0_scratch6 c = num (rX c) := by revert c; decide
/-- The semaphore of the text that counts the sends of summed chunks across `z`. -/
theorem sem_sZ (c : Fin 12) : s12 cc0_scratch7 c = num (sZ c) := by revert c; decide
/-- The semaphore of the text that counts the summed chunks that come across `z`. -/
theorem sem_rZ (c : Fin 12) : s12 cc0_scratch8 c = num (rZ c) := by revert c; decide
/-- The semaphore of the text that counts the even chunks passed on across `x`. -/
theorem sem_sE (i : Fin 6) : s6 cc0_scratch9 i = num (sE i) := by revert i; decide
/-- The semaphore of the text that counts the even chunks that are passed on to the device. -/
theorem sem_rE (i : Fin 6) : s6 cc0_scratch10 i = num (rE i) := by revert i; decide
/-- The semaphore of the text that counts the odd chunks passed on across `z`. -/
theorem sem_sO (i : Fin 6) : s6 cc0_scratch11 i = num (sO i) := by revert i; decide
/-- The semaphore of the text that counts the odd chunks that are passed on to the device. -/
theorem sem_rO (i : Fin 6) : s6 cc0_scratch12 i = num (rO i) := by revert i; decide
/-- The semaphore of the text that counts the local copies of chunks. -/
theorem sem_kC (c : Fin 12) : s16 cc0_scratch13 (lo16 c) = num (kC c) := by revert c; decide
/-- The semaphore of the text that counts the local copies of kept chunks. -/
theorem sem_kU (j : Fin 4) : s16 cc0_scratch13 (hi16 j) = num (kU j) := by revert j; decide

/-! ## The mesh -/

/-- The number of the neighbour across `y`. -/
theorem pY_val (d : Dev nD) : (pY d).val = (4 * (d.val / 4) + d.val % 2 + 2) - 2 * ((d.val / 2) % 2) := k0_dev1_eq d
/-- The number of the neighbour across `x`. -/
theorem pX_val (d : Dev nD) : (pX d).val = (2 * ((d.val / 2) % 2) + d.val % 2 + 4) - 4 * (d.val / 4) := k0_dev2_eq d
/-- The number of the neighbour across `z`. -/
theorem pZ_val (d : Dev nD) : (pZ d).val = (4 * (d.val / 4) + 2 * ((d.val / 2) % 2) + 1) - d.val % 2 := k0_dev3_eq d

/-- Being neighbours across `y` is mutual. -/
theorem pY_pY (d : Dev nD) : pY (pY d) = d := by
  have := d.isLt; refine Fin.ext ?_; rw [pY_val, pY_val]; change d.val < 8 at this; omega
/-- Being neighbours across `x` is mutual. -/
theorem pX_pX (d : Dev nD) : pX (pX d) = d := by
  have := d.isLt; refine Fin.ext ?_; rw [pX_val, pX_val]; change d.val < 8 at this; omega
/-- Being neighbours across `z` is mutual. -/
theorem pZ_pZ (d : Dev nD) : pZ (pZ d) = d := by
  have := d.isLt; refine Fin.ext ?_; rw [pZ_val, pZ_val]; change d.val < 8 at this; omega
/-- The device opposite is the same whichever axis is crossed first. -/
theorem pX_pZ (d : Dev nD) : pX (pZ d) = pZ (pX d) := by
  have := d.isLt; refine Fin.ext ?_; rw [pX_val, pZ_val, pZ_val, pX_val]; change d.val < 8 at this; omega

/-- The first row of the device's own block of the result. -/
def blk (d : Dev nD) : ℕ := 3648 * (d.val / 4) + 1824 * (d.val % 2)
/-- The first column of the argument that the device keeps. -/
def col (d : Dev nD) : ℕ := 1024 * ((d.val / 2) % 2)

/-- Neighbours across `y` have one block. -/
theorem blk_pY (d : Dev nD) : blk (pY d) = blk d := by
  have := d.isLt; unfold blk; rw [pY_val]; change d.val < 8 at this; omega
/-- Where the block of the neighbour across `x` starts. -/
theorem blk_pX (d : Dev nD) : blk (pX d) = 1824 * (d.val % 2) + 3648 - 3648 * (d.val / 4) := by
  have := d.isLt; unfold blk; rw [pX_val]; change d.val < 8 at this; omega
/-- Where the block of the neighbour across `z` starts. -/
theorem blk_pZ (d : Dev nD) : blk (pZ d) = 3648 * (d.val / 4) + 1824 - 1824 * (d.val % 2) := by
  have := d.isLt; unfold blk; rw [pZ_val]; change d.val < 8 at this; omega
/-- A block starts no later than the last of the four. -/
theorem blk_le (d : Dev nD) : blk d ≤ 5472 := by
  have := d.isLt; unfold blk; change d.val < 8 at this; omega
/-- A device's columns start at 1024 or before. -/
theorem col_le (d : Dev nD) : col d ≤ 1024 := by unfold col; omega
/-- The neighbour across `y` has the other half of the columns. -/
theorem col_pY (d : Dev nD) : col (pY d) = 1024 - col d := by
  have := d.isLt; unfold col; rw [pY_val]; change d.val < 8 at this; omega
/-- Neighbours across `x` have the same columns. -/
theorem col_pX (d : Dev nD) : col (pX d) = col d := by
  have := d.isLt; unfold col; rw [pX_val]; change d.val < 8 at this; omega
/-- Neighbours across `z` have the same columns. -/
theorem col_pZ (d : Dev nD) : col (pZ d) = col d := by
  have := d.isLt; unfold col; rw [pZ_val]; change d.val < 8 at this; omega

/-- Whose payment a cell waits for, and whose cell a device pays: itself for what it sends or copies, the neighbour for what is received. -/
def tgt (d : Dev nD) : Kd → Dev nD
  | rY _ | rU _ => pY d
  | rX _ | rE _ => pX d
  | rZ _ | rO _ => pZ d
  | _ => d
/-- Whom a device pays at a kind of cell pays that device at it. -/
theorem tgt_tgt (d : Dev nD) (k : Kd) : tgt (tgt d k) k = d :=
  match k with
  | rY _ | rU _ => pY_pY d
  | rX _ | rE _ => pX_pX d
  | rZ _ | rO _ => pZ_pZ d
  | sY _ | sU _ | sX _ | sZ _ | sE _ | sO _ | kC _ | kU _ => rfl

/-- Whether it counts what comes from a neighbour. -/
def isR : Kd → Bool
  | rY _ | rU _ | rX _ | rE _ | rZ _ | rO _ => true
  | _ => false

/-- The neighbour of a number: across `y`, `x`, `z`. -/
def nb (d : Dev nD) : Fin 3 → Dev nD
  | 0 => pY d
  | 1 => pX d
  | 2 => pZ d
/-- Being neighbours is mutual, across each axis. -/
theorem nb_nb (d : Dev nD) (j : Fin 3) : nb (nb d j) j = d := by
  fin_cases j
  · exact pY_pY d
  · exact pX_pX d
  · exact pZ_pZ d

/-! ## Cells -/

/-- The device's cell for a DMA semaphore, or (`none`) its barrier cell. -/
def gcell (d : Dev nD) : Option Kd → GSem nD τ sig
  | some k => ((d : Thread nD τ), .dma (num k))
  | none => ((d : Thread nD τ), .reg barS)
/-- The device's cell of a kind. -/
abbrev cell (d : Dev nD) (k : Kd) : GSem nD τ sig := gcell d (some k)
/-- The device's barrier cell. -/
abbrev bar (d : Dev nD) : GSem nD τ sig := gcell d none

/-- Different devices or kinds have different cells. -/
theorem gcell_inj {d e : Dev nD} {o p : Option Kd} (h : gcell d o = gcell e p) : d = e ∧ o = p := by
  have h1 : d = e := by
    have := congrArg (fun g : GSem nD τ sig => g.1.1) h
    cases o <;> cases p <;> exact this
  refine ⟨h1, ?_⟩
  cases o <;> cases p
  · rfl
  · exact absurd (congrArg Prod.snd h) (fun h' => by cases h')
  · exact absurd (congrArg Prod.snd h) (fun h' => by cases h')
  · have := congrArg Prod.snd h
    exact congrArg some (num_inj (SemLoc.dma.inj this))

/-- Every cell is a TensorCore's. -/
theorem gcell_tc (d : Dev nD) (o : Option Kd) : (gcell d o).1.2 = .tc := by cases o <;> rfl

/-- The credit of a copy of 152 rows. -/
def n152 : ℕ := (vC (Memref.whole cc0_scratch0) 0).view.dmaCredit
/-- The credit of a copy of 224 rows. -/
def n224 : ℕ := (vU (Memref.whole cc0_scratch0) 0).view.dmaCredit
/-- The credit of the copy a semaphore counts. -/
def amt : Kd → ℕ
  | sU _ | rU _ | kU _ => n224
  | _ => n152
/-- Every copy has some credit. -/
theorem amt_pos (k : Kd) : 0 < amt k := by
  have h1 : 0 < n152 := View.dmaCredit_pos _ (by decide)
  have h2 : 0 < n224 := View.dmaCredit_pos _ (by decide)
  cases k <;> first | exact h1 | exact h2

/-! ## Regions and contents -/

variable (m : (ℓ : Loc nD τ sig) → Buf (Elt F) ℓ) (ρ : Dev nD → PrngReg)

/-- The memory at launch. -/
def s₀ : MemSt nD τ sig (Elt F) := ⟨m, fun _ => 0, ρ⟩

/-- Where a device's argument is. -/
abbrev xLoc (d : Dev nD) : Loc nD τ sig := (d : Thread nD τ).loc main_arg0
/-- Where a device's result is staged. -/
abbrev oLoc (d : Dev nD) : Loc nD τ sig := (d : Thread nD τ).loc cc0_stg0_0
/-- Where a device's scratch copy is. -/
abbrev vLoc (d : Dev nD) : Loc nD τ sig := (d : Thread nD τ).loc cc0_scratch0

/-- Rows `a … a + n - 1` of the result. -/
def oSet (a n : ℕ) : Finset S8192x1024.Idx := Finset.univ.filter fun i => a ≤ (i 0).val ∧ (i 0).val < a + n
/-- Rows `a … a + n - 1` of the scratch copy. -/
def vSet (a n : ℕ) : Finset S2720x1024.Idx := Finset.univ.filter fun i => a ≤ (i 0).val ∧ (i 0).val < a + n

/-- An index of the argument from a row and a column. -/
def xIx (r : Fin 8192) (k : Fin 2048) : S1x8192x2048.Idx :=
  fun a => match a with | ⟨0, _⟩ => (0 : Fin 1) | ⟨1, _⟩ => r | ⟨2, _⟩ => k

/-- The column of the argument behind a column of the device's result. -/
def colAt (d : Dev nD) (k : Fin 1024) : Fin 2048 := ⟨col d + k.val, by have := col_le d; have := k.isLt; omega⟩

/-- Contents of the result. -/
abbrev OutC : Type := S8192x1024.Idx → F .f32
/-- Contents of the scratch copy. -/
abbrev ScrC : Type := S2720x1024.Idx → F .f32

/-- What comes across `y`: the device's columns of the neighbour's argument. -/
def Yc (d : Dev nD) : OutC (F := F) := fun i => m (xLoc (pY d)) (xIx (i 0) (colAt d (i 1)))
/-- The device's columns of its own argument. -/
def Xc (d : Dev nD) : OutC (F := F) := fun i => m (xLoc d) (xIx (i 0) (colAt d (i 1)))
/-- Their sum, what came first. -/
def Sc (d : Dev nD) : OutC (F := F) := fun i => FloatOps.addf (φ := .f32) (Yc m d i) (Xc m d i)

/-- The row of the argument behind a row of the scratch copy. -/
def vRow (d : Dev nD) (r : Fin 2720) : Fin 8192 :=
  if h : r.val < 1824 then ⟨blk d + r.val, by have := blk_le d; omega⟩ else ⟨5472 + r.val, by have := r.isLt; omega⟩
/-- The scratch copy: the device's columns of its own block and of the kept rows. -/
def Wc (d : Dev nD) : ScrC (F := F) := fun i => m (xLoc d) (xIx (vRow d (i 0)) (colAt d (i 1)))

/-- Rows of the result at device `d`. -/
def oPt (d : Dev nD) (q : PosShare TreeShare) (a n : ℕ) (f : OutC (F := F)) : sProp 𝕄 :=
  (oLoc d ↦[oSet a n]{q} (f : Buf (Elt F) (oLoc d)))
/-- Rows of the scratch copy at device `d`. -/
def vPt (d : Dev nD) (a n : ℕ) (f : ScrC (F := F)) : sProp 𝕄 :=
  (vLoc d ↦[vSet a n]{fullShare} (f : Buf (Elt F) (vLoc d)))

/-- Chunk `c` of `e`'s block in `d`'s result, at some contents. -/
def anyC (d e : Dev nD) (c : Fin 12) : sProp 𝕄 := iprop(∃ f, oPt (F := F) d fullShare (blk e + 152 * c.val) 152 f)
/-- Kept chunk `j` in `d`'s result, at some contents. -/
def anyU (d : Dev nD) (j : Fin 4) : sProp 𝕄 := iprop(∃ f, oPt (F := F) d fullShare (7296 + 224 * j.val) 224 f)
/-- Chunk `c` of `e`'s block in `d`'s result, holding `e`'s sums. -/
def sum (d : Dev nD) (q : PosShare TreeShare) (e : Dev nD) (c : Fin 12) : sProp 𝕄 := oPt d q (blk e + 152 * c.val) 152 (Sc m e)

/-- Some share of the whole argument of `d`. -/
def xs (d : Dev nD) : sProp 𝕄 := iprop(∃ q : PosShare TreeShare, xLoc d ↦{q} m (xLoc d))

omit [FloatOps F] in
/-- A share of the argument is two shares of it. -/
theorem xs_twice (d : Dev nD) : xs m d ⊢ iprop(xs m d ∗ xs m d : sProp 𝕄) := by
  unfold xs
  iintro ⟨%q, H⟩
  ihave H2 := (pointsTo_share (PosShare.mem_left_op_right q)).1 $$ H
  icases H2 with ⟨H1, H2⟩
  isplitl [H1]
  · iexists q.left; iexact H1
  · iexists q.right; iexact H2

/-- Rows of the result can be kept by an invariant. -/
instance oPt_storable (d : Dev nD) (q : PosShare TreeShare) (a n : ℕ) (f : OutC (F := F)) : BI.Storable (upEmb : UEmb _ 𝕄) (oPt d q a n f) := by unfold oPt; infer_instance
/-- Rows of the scratch copy can be kept by an invariant. -/
instance vPt_storable (d : Dev nD) (a n : ℕ) (f : ScrC (F := F)) : BI.Storable (upEmb : UEmb _ 𝕄) (vPt d a n f) := by unfold vPt; infer_instance
/-- A chunk at some contents can be kept by an invariant. -/
instance anyC_storable (d e : Dev nD) (c : Fin 12) : BI.Storable (upEmb : UEmb _ 𝕄) (anyC (F := F) d e c) := by unfold anyC; infer_instance
/-- A kept chunk at some contents can be kept by an invariant. -/
instance anyU_storable (d : Dev nD) (j : Fin 4) : BI.Storable (upEmb : UEmb _ 𝕄) (anyU (F := F) d j) := by unfold anyU; infer_instance
/-- A summed chunk can be kept by an invariant. -/
instance sum_storable (d : Dev nD) (q : PosShare TreeShare) (e : Dev nD) (c : Fin 12) : BI.Storable (upEmb : UEmb _ 𝕄) (sum m d q e c) := by unfold sum; infer_instance

/-! ## The schedule -/

/-- What a neighbour's announcement hands over: the rows of its result that this device writes. -/
def barPay (d : Dev nD) : Fin 3 → sProp 𝕄
  | 0 => iprop(row (anyC (F := F) (pY d) d) L12 ∗ row (anyU (F := F) (pY d)) L4)
  | 1 => iprop(row (anyC (F := F) (pX d) d) L12 ∗ row (fun i => anyC (F := F) (pX d) (pZ d) (ev i)) L6)
  | 2 => iprop(row (anyC (F := F) (pZ d) d) L12 ∗ row (fun i => anyC (F := F) (pZ d) (pX d) (od i)) L6)

/-- What the end of a copy hands over. -/
def pay (d : Dev nD) : Kd → sProp 𝕄
  | sY _ | sU _ => iprop(emp)
  | rY c => oPt d fullShare (blk d + 152 * c.val) 152 (Yc m d)
  | rU j => oPt d fullShare (7296 + 224 * j.val) 224 (Yc m d)
  | sX c => sum m d fullShare.left d c
  | sZ c => sum m d fullShare.right d c
  | rX c => sum m d fullShare (pX d) c
  | rZ c => sum m d fullShare (pZ d) c
  | sE i => sum m d fullShare (pZ d) (ev i)
  | sO i => sum m d fullShare (pX d) (od i)
  | rE i => sum m d fullShare (pZ (pX d)) (ev i)
  | rO i => sum m d fullShare (pZ (pX d)) (od i)
  | kC c => vPt d (152 * c.val) 152 (Wc m d)
  | kU j => vPt d (1824 + 224 * j.val) 224 (Wc m d)

/-- What an announcement hands over can be kept by an invariant. -/
instance barPay_storable (d : Dev nD) (j : Fin 3) : BI.Storable (upEmb : UEmb _ 𝕄) (barPay (F := F) d j) := by
  fin_cases j <;> (dsimp only [barPay]; infer_instance)
/-- What the end of a copy hands over can be kept by an invariant. -/
instance pay_storable (d : Dev nD) (k : Kd) : BI.Storable (upEmb : UEmb _ 𝕄) (pay m d k) := by
  cases k <;> (dsimp only [pay]; infer_instance)

/-- One round, round 0: a barrier cell has three payers of one unit, the other cells one payer of the copy's credit. -/
def sched : Rounds.Schedule (GSem nD τ sig) (Fin 3) 𝕄 where
  duties g r := if r = 0 ∧ g.1.2 = .tc then
      (match g.2 with
        | .reg s => if s = barS then Finset.univ else ∅
        | .dma n => match kindOf n with | some _ => {0} | none => ∅)
    else ∅
  unitless _ := False
  amount g _ _ := match g.2 with
    | .reg _ => 1
    | .dma n => match kindOf n with | some k => amt k | none => 1
  payload g _ d := match g.2 with
    | .reg _ => barPay g.1.1 d
    | .dma n => match kindOf n with | some k => pay m g.1.1 k | none => iprop(emp)
  amount_pos g _ _ _ := by
    rcases g with ⟨t, s | n⟩
    · exact Nat.one_pos
    · dsimp only
      cases kindOf n with
      | none => exact Nat.one_pos
      | some k => exact amt_pos k

/-- All that the schedule hands over can be kept by an invariant. -/
instance sched_storable (g : GSem nD τ sig) (r : ℕ) (d : Fin 3) :
    BI.Storable (upEmb : UEmb _ 𝕄) ((sched (F := F) m).payload g r d) := by
  rcases g with ⟨t, s | n⟩
  · show BI.Storable upEmb (barPay t.1 d); infer_instance
  · show BI.Storable upEmb (match kindOf n with | some k => pay m t.1 k | none => iprop(emp))
    cases kindOf n <;> (dsimp only; infer_instance)

section Sched
variable (d : Dev nD) (k : Kd)

/-- A barrier cell has three payers. -/
theorem duties_bar : (sched (F := F) m).duties (bar d) 0 = Finset.univ := by
  dsimp only [sched]; rw [if_pos ⟨rfl, rfl⟩]; exact if_pos rfl
/-- A cell of a kind has one payer. -/
theorem duties_cell : (sched (F := F) m).duties (cell d k) 0 = {0} := by
  dsimp only [sched]; rw [if_pos ⟨rfl, rfl⟩]
  show (match kindOf (num k) with | some _ => ({0} : Finset (Fin 3)) | none => ∅) = {0}
  rw [kindOf_num]
/-- Nothing is paid after round 0. -/
theorem duties_later (g : GSem nD τ sig) : ∀ r, 1 ≤ r → (sched (F := F) m).duties g r = ∅ :=
  fun r hr => by dsimp only [sched]; exact if_neg fun h => by omega
/-- An announcement is one unit. -/
theorem amount_bar (j : Fin 3) : (sched (F := F) m).amount (bar d) 0 j = 1 := rfl
/-- A copy pays its credit. -/
theorem amount_cell (j : Fin 3) : (sched (F := F) m).amount (cell d k) 0 j = amt k := by
  show (match kindOf (num k) with | some k => amt k | none => 1) = _
  rw [kindOf_num]
/-- A barrier cell receives three units. -/
theorem expect_bar : (sched (F := F) m).expect (bar d) 0 = 3 := by
  unfold Schedule.expect Schedule.amountOf
  rw [duties_bar, Finset.sum_congr rfl fun j _ => amount_bar m d j]; rfl
/-- A cell of a kind receives its copy's credit. -/
theorem expect_cell : (sched (F := F) m).expect (cell d k) 0 = amt k := by
  unfold Schedule.expect Schedule.amountOf; rw [duties_cell, Finset.sum_singleton, amount_cell]
/-- What the schedule has an announcement hand over. -/
theorem payload_bar (j : Fin 3) : (sched (F := F) m).payload (bar d) 0 j = barPay d j := rfl
/-- What the schedule has the end of a copy hand over. -/
theorem payload_cell (j : Fin 3) : (sched (F := F) m).payload (cell d k) 0 j = pay m d k := by
  show (match kindOf (num k) with | some k => pay m d k | none => iprop(emp)) = _
  rw [kindOf_num]
/-- What a wait for the whole round of a barrier cell gives: what the three announcements hand over. -/
theorem rest_bar : bigSep ((sched (F := F) m).duties (bar d) 0 \ ∅) (fun j => (sched (F := F) m).payload (bar d) 0 j)
    = iprop(barPay d 0 ∗ barPay d 1 ∗ barPay d 2) := by
  rw [Finset.sdiff_empty, duties_bar]
  exact bigSep_univ_eq_bigSepL [(0 : Fin 3), 1, 2] (by decide) (by decide) _
/-- What a wait for the whole round of a cell of a kind gives: what its copy hands over. -/
theorem rest_cell : bigSep ((sched (F := F) m).duties (cell d k) 0 \ ∅) (fun j => (sched (F := F) m).payload (cell d k) 0 j)
    = pay m d k := by
  rw [Finset.sdiff_empty, duties_cell, bigSep_singleton, payload_cell]
end Sched

/-! ## Levels -/

/-- Every cell of a TensorCore is waited on at one index. -/
def L (g : GSem nD τ sig) : Finset Unit := if g.1.2 = .tc then {()} else ∅
/-- Copies that need nobody's answer at 0, what comes across `y` at 2, a neighbour's own block at 3, what is passed on at 4. -/
def lvK : Kd → ℕ
  | rY _ | rU _ => 2
  | rX _ | rZ _ => 3
  | rE _ | rO _ => 4
  | _ => 0
/-- A cell's level; the barrier's is 1. -/
def lv (g : GSem nD τ sig) (_ : Unit) : ℕ := match g.2 with
  | .reg s => if s = barS then 1 else 0
  | .dma n => match kindOf n with | some k => lvK k | none => 0

/-- A cell that is no TensorCore's is not waited on. -/
theorem L_of_ne (g : GSem nD τ sig) (h : g.1.2 ≠ .tc) : L g = ∅ := if_neg h
/-- A TensorCore's cell is waited on at its one index. -/
theorem L_tc (g : GSem nD τ sig) (h : g.1.2 = .tc) : L g = {()} := if_pos h
/-- The level of a cell is its kind's. -/
theorem lv_cell (d : Dev nD) (k : Kd) (u : Unit) : lv (cell d k) u = lvK k := by
  show (match kindOf (num k) with | some k => lvK k | none => 0) = _
  rw [kindOf_num]
/-- The level of a barrier cell is 1. -/
theorem lv_bar (d : Dev nD) (u : Unit) : lv (bar d) u = 1 := by show (if barS = barS then 1 else 0) = 1; exact if_pos rfl

/-- Everything owed is owed at cells of a level above `n`. -/
def Above (n : ℕ) (O : CellTallies nD τ sig Unit) : Prop := ∀ g u, 0 < O g u → g.1.2 = .tc ∧ n < lv g u

/-- Owing nothing is above every level. -/
theorem Above.zero (n : ℕ) : Above n 0 := fun g u h => absurd h (Nat.lt_irrefl 0)
/-- What two debts above a level owe together is above it. -/
theorem Above.add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by omega)
  · exact h g u e
/-- One debt at a cell of a higher level is above a level. -/
theorem Above.tally {n : ℕ} {g : GSem nD τ sig} (a : ℕ) (h : g.1.2 = .tc) (hl : n < lv g ()) : Above n (tallyAt g () a) := fun g' u hg => by
  rw [tallyAt_apply] at hg
  by_cases e : g' = g ∧ u = ()
  · rw [e.1]; exact ⟨h, hl⟩
  · rw [if_neg e] at hg; exact absurd hg (Nat.lt_irrefl 0)
/-- One debt at a cell of a kind of a higher level is above a level. -/
theorem Above.cell {n : ℕ} (d : Dev nD) (k : Kd) (a : ℕ) (h : n < lvK k) : Above n (tallyAt (cell d k) () a) :=
  .tally a rfl (by rw [lv_cell]; exact h)
/-- What is above a level is above a lower one. -/
theorem Above.mono {n n' : ℕ} {O : CellTallies nD τ sig Unit} (h : Above n O) (hn : n' ≤ n) : Above n' O := fun g u hg =>
  ⟨(h g u hg).1, lt_of_le_of_lt hn (h g u hg).2⟩

omit [FloatOps F] in
/-- A device may wait at a level below all it owes. -/
theorem mayWait (d : Dev nD) (sm : SemLoc sig) (n : ℕ) (O : CellTallies nD τ sig Unit) (hs : lv ((d : Thread nD τ), sm) () ≤ n) (hO : Above n O) :
    (levAts L lv : sProp 𝕄) ⊢ MayWait (d : Thread nD τ) sm () O :=
  MayOwe.of_cut (L := L) (lev := lv) n (fun p hp => by rw [Finset.mem_singleton.mp hp, L_tc _ rfl]; exact Finset.mem_singleton_self _)
    (fun g u hg => by rw [L_tc _ (hO g u hg).1]; exact Finset.mem_singleton_self _)
    (fun p hp => by rw [Finset.mem_singleton.mp hp]; exact hs)
    (fun g u hg => (hO g u hg).2)

end Cert.KernelIdeal.Own

end
-- ==== Proof.IGeom.lean ====
module

public import proofs.«01_k».proof.Proof.ICells

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The memrefs of the run -/

/-- The argument. -/
abbrev xB : Memref sig .tc .hbm S1x8192x2048 .f32 := Memref.whole main_arg0
/-- The result. -/
abbrev oB : Memref sig .tc .vmem S8192x1024 .f32 := Memref.whole cc0_stg0_0
/-- The scratch copy. -/
abbrev vB : Memref sig .tc .vmem S2720x1024 .f32 := Memref.whole cc0_scratch0

/-! ## Which rows a piece is -/

/-- A rectangle of whole rows of the result is an interval of rows. -/
theorem oSet_rect (off : Fin 2 → ℕ) (a n : ℕ) (h : off = ![a, 0]) (inb : ∀ i, off i + (![n, 1024] : Fin 2 → ℕ) i ≤ S8192x1024.size i) :
    (Rect.unit (s := S8192x1024) off ![n, 1024] inb).set = oSet a n := by
  subst h
  ext i
  rw [Rect.mem_set_unit, oSet, Finset.mem_filter]
  constructor
  · intro hi; exact ⟨Finset.mem_univ _, hi 0⟩
  · rintro ⟨-, hi⟩ b
    rcases b with ⟨_ | _ | _, hb⟩
    · exact hi
    · exact ⟨Nat.zero_le _, by have := (i 1).isLt; change (i 1).val < 0 + 1024; change (i 1).val < 1024 at this; omega⟩
    · exact absurd hb (by show ¬ (_ < 2); omega)
/-- A rectangle of whole rows of the scratch copy is an interval of rows. -/
theorem vSet_rect (off : Fin 2 → ℕ) (a n : ℕ) (h : off = ![a, 0]) (inb : ∀ i, off i + (![n, 1024] : Fin 2 → ℕ) i ≤ S2720x1024.size i) :
    (Rect.unit (s := S2720x1024) off ![n, 1024] inb).set = vSet a n := by
  subst h
  ext i
  rw [Rect.mem_set_unit, vSet, Finset.mem_filter]
  constructor
  · intro hi; exact ⟨Finset.mem_univ _, hi 0⟩
  · rintro ⟨-, hi⟩ b
    rcases b with ⟨_ | _ | _, hb⟩
    · exact hi
    · exact ⟨Nat.zero_le _, by have := (i 1).isLt; change (i 1).val < 0 + 1024; change (i 1).val < 1024 at this; omega⟩
    · exact absurd hb (by show ¬ (_ < 2); omega)

/-- Where a chunk of the device's own block starts in the result, as a copy names it. -/
theorem off1_at (d : Dev nD) (c : Fin 12) : k0_off1 d (BitVec.ofNat 32 (152 * c.val)) = ![blk d + 152 * c.val, 0] := k0_off1_eq d c
/-- Where a chunk of the device's own block starts in the result, as a load or store names it. -/
theorem off12_at (d : Dev nD) (c : Fin 12) : k0_off12 d (BitVec.ofNat 32 (152 * c.val)) = ![blk d + 152 * c.val, 0] := k0_off12_eq d c
/-- Where an even chunk of the block of the neighbour across `z` starts in the result. -/
theorem off13_at (d : Dev nD) (i : Fin 6) : k0_off13 d (BitVec.ofNat 32 (304 * i.val)) = ![blk (pZ d) + 152 * (ev i).val, 0] := by
  rw [k0_off13_eq d i, blk_pZ]; congr 1
  have := d.isLt; change d.val < 8 at this; show _ = _ + 152 * (2 * i.val); omega
/-- Where an odd chunk of the block of the neighbour across `x` starts in the result. -/
theorem off14_at (d : Dev nD) (i : Fin 6) : k0_off14 d (BitVec.ofNat 32 (152 + 304 * i.val)) = ![blk (pX d) + 152 * (od i).val, 0] := by
  rw [k0_off14_eq d i, blk_pX]; congr 1
  have := d.isLt; change d.val < 8 at this; show _ = _ + 152 * (2 * i.val + 1); omega
/-- Where a chunk of the neighbour's columns starts in the argument. -/
theorem off2_at (d : Dev nD) (c : Fin 12) : k0_off2 d (BitVec.ofNat 32 (152 * c.val)) = ![0, blk d + 152 * c.val, 1024 - col d] := k0_off2_eq d c
/-- Where a chunk of the device's own columns starts in the argument. -/
theorem off3_at (d : Dev nD) (c : Fin 12) : k0_off3 d (BitVec.ofNat 32 (152 * c.val)) = ![0, blk d + 152 * c.val, col d] := k0_off3_eq d c
/-- Where a kept chunk of the neighbour's columns starts, in closed form. -/
theorem offUP_at (d : Dev nD) (j : Fin 4) : offUP d j = ![0, 7296 + 224 * j.val, 1024 - col d] :=
  match j with
  | 0 => k0_off4_eq d
  | 1 => k0_off6_eq d
  | 2 => k0_off8_eq d
  | 3 => k0_off10_eq d
/-- Where a kept chunk of the device's own columns starts, in closed form. -/
theorem offUM_at (d : Dev nD) (j : Fin 4) : offUM d j = ![0, 7296 + 224 * j.val, col d] :=
  match j with
  | 0 => k0_off5_eq d
  | 1 => k0_off7_eq d
  | 2 => k0_off9_eq d
  | 3 => k0_off11_eq d

/-- The rows of a chunk of the device's own block. -/
theorem set_oC (d : Dev nD) (c : Fin 12) : (oC oB d c).view.set = oSet (blk d + 152 * c.val) 152 :=
  (View.set_slice_whole _ _).trans (oSet_rect _ _ 152 (off1_at d c) _)
/-- The rows of an even chunk that is passed on. -/
theorem set_oE (d : Dev nD) (i : Fin 6) : (oE oB d i).view.set = oSet (blk (pZ d) + 152 * (ev i).val) 152 :=
  (View.set_slice_whole _ _).trans (oSet_rect _ _ 152 (off13_at d i) _)
/-- The rows of an odd chunk that is passed on. -/
theorem set_oO (d : Dev nD) (i : Fin 6) : (oO oB d i).view.set = oSet (blk (pX d) + 152 * (od i).val) 152 :=
  (View.set_slice_whole _ _).trans (oSet_rect _ _ 152 (off14_at d i) _)
/-- The rows of a kept chunk in the result. -/
theorem set_oU (j : Fin 4) : (oU oB j).view.set = oSet (7296 + 224 * j.val) 224 :=
  (View.set_slice_whole _ _).trans (oSet_rect _ _ 224 rfl _)
/-- The rows of a chunk in the scratch copy. -/
theorem set_vC (c : Fin 12) : (vC vB c).view.set = vSet (152 * c.val) 152 :=
  (View.set_slice_whole _ _).trans (vSet_rect _ _ 152 rfl _)
/-- The rows of a kept chunk in the scratch copy. -/
theorem set_vU (j : Fin 4) : (vU vB j).view.set = vSet (1824 + 224 * j.val) 224 :=
  (View.set_slice_whole _ _).trans (vSet_rect _ _ 224 rfl _)

/-- Holding the rows of a chunk of the result is holding what its view names. -/
theorem pt_oC (d e : Dev nD) (q : PosShare TreeShare) (c : Fin 12) (f : OutC (F := F)) :
    oPt d q (blk e + 152 * c.val) 152 f = ((oC oB e c).view.loc (d : Thread nD τ) ↦[(oC oB e c).view.set]{q} f : sProp 𝕄) :=
  congrArg (fun S => (oLoc d ↦[S]{q} (f : Buf (Elt F) (oLoc d)) : sProp 𝕄)) (set_oC e c).symm
/-- Holding the rows of an even chunk that is passed on is holding what its view names. -/
theorem pt_oE (d e : Dev nD) (q : PosShare TreeShare) (i : Fin 6) (f : OutC (F := F)) :
    oPt d q (blk (pZ e) + 152 * (ev i).val) 152 f = ((oE oB e i).view.loc (d : Thread nD τ) ↦[(oE oB e i).view.set]{q} f : sProp 𝕄) :=
  congrArg (fun S => (oLoc d ↦[S]{q} (f : Buf (Elt F) (oLoc d)) : sProp 𝕄)) (set_oE e i).symm
/-- Holding the rows of an odd chunk that is passed on is holding what its view names. -/
theorem pt_oO (d e : Dev nD) (q : PosShare TreeShare) (i : Fin 6) (f : OutC (F := F)) :
    oPt d q (blk (pX e) + 152 * (od i).val) 152 f = ((oO oB e i).view.loc (d : Thread nD τ) ↦[(oO oB e i).view.set]{q} f : sProp 𝕄) :=
  congrArg (fun S => (oLoc d ↦[S]{q} (f : Buf (Elt F) (oLoc d)) : sProp 𝕄)) (set_oO e i).symm
/-- Holding the rows of a kept chunk of the result is holding what its view names. -/
theorem pt_oU (d : Dev nD) (q : PosShare TreeShare) (j : Fin 4) (f : OutC (F := F)) :
    oPt d q (7296 + 224 * j.val) 224 f = ((oU oB j).view.loc (d : Thread nD τ) ↦[(oU oB j).view.set]{q} f : sProp 𝕄) :=
  congrArg (fun S => (oLoc d ↦[S]{q} (f : Buf (Elt F) (oLoc d)) : sProp 𝕄)) (set_oU j).symm
/-- Holding the rows of a chunk of the scratch copy is holding what its view names. -/
theorem pt_vC (d : Dev nD) (c : Fin 12) (f : ScrC (F := F)) :
    vPt d (152 * c.val) 152 f = ((vC vB c).view.loc (d : Thread nD τ) ↦[(vC vB c).view.set]{fullShare} f : sProp 𝕄) :=
  congrArg (fun S => (vLoc d ↦[S]{fullShare} (f : Buf (Elt F) (vLoc d)) : sProp 𝕄)) (set_vC c).symm
/-- Holding the rows of a kept chunk of the scratch copy is holding what its view names. -/
theorem pt_vU (d : Dev nD) (j : Fin 4) (f : ScrC (F := F)) :
    vPt d (1824 + 224 * j.val) 224 f = ((vU vB j).view.loc (d : Thread nD τ) ↦[(vU vB j).view.set]{fullShare} f : sProp 𝕄) :=
  congrArg (fun S => (vLoc d ↦[S]{fullShare} (f : Buf (Elt F) (vLoc d)) : sProp 𝕄)) (set_vU j).symm

/-! ## Credits -/

/-- A copy of a chunk of the result has the credit of 152 rows. -/
theorem cr_oC (d : Dev nD) (c : Fin 12) : (oC oB d c).view.dmaCredit = n152 := rfl
/-- A copy of an even chunk that is passed on has the credit of 152 rows. -/
theorem cr_oE (d : Dev nD) (i : Fin 6) : (oE oB d i).view.dmaCredit = n152 := rfl
/-- A copy of an odd chunk that is passed on has the credit of 152 rows. -/
theorem cr_oO (d : Dev nD) (i : Fin 6) : (oO oB d i).view.dmaCredit = n152 := rfl
/-- A copy of a kept chunk of the result has the credit of 224 rows. -/
theorem cr_oU (j : Fin 4) : (oU oB j).view.dmaCredit = n224 := rfl
/-- A copy into a chunk of the scratch copy has the credit of 152 rows. -/
theorem cr_vC (c : Fin 12) : (vC vB c).view.dmaCredit = n152 := rfl
/-- A copy into a kept chunk of the scratch copy has the credit of 224 rows. -/
theorem cr_vU (j : Fin 4) : (vU vB j).view.dmaCredit = n224 := rfl
/-- A copy of a chunk of the argument has the credit of 152 rows. -/
theorem cr_xP (d : Dev nD) (c : Fin 12) : (xP xB d c).view.dmaCredit = n152 := rfl
/-- A copy of a kept chunk of the argument has the credit of 224 rows. -/
theorem cr_xUP (d : Dev nD) (j : Fin 4) : (xUP xB d j).view.dmaCredit = n224 := rfl

/-! ## What lands -/

/-- A view written with what another reads holds, on its elements, whatever contents it reads the same from. -/
theorem land {sp : Space} {s : Shape} {e : EltTy} (v : View sig .tc sp s e) (w : s.Idx → Elt F e) (fd g : v.ty.Contents (Elt F))
    (h : v.read (Elt F) g = w) : ∀ i ∈ v.set, v.write (Elt F) fd w Finset.univ i = g i := by
  subst h
  intro i hi
  rw [View.write_read_eq_piecewise]
  exact Finset.piecewise_eq_of_mem _ _ _ hi

variable (m : (ℓ : Loc nD τ sig) → Buf (Elt F) ℓ)

/-- An index of 152 rows of the argument, the leading coordinate put back. -/
theorem unsq152 (h : S152x1024.numel = S1x152x1024.numel) (y : S152x1024.Idx) :
    Shape.reshapeEquiv (s := S1x152x1024) (s' := S152x1024) h y = Fin.cons ⟨0, Nat.one_pos⟩ y := Shape.reshapeEquiv_cons_one h y
/-- An index of 224 rows of the argument, the leading coordinate put back. -/
theorem unsq224 (h : S224x1024.numel = S1x224x1024.numel) (y : S224x1024.Idx) :
    Shape.reshapeEquiv (s := S1x224x1024) (s' := S224x1024) h y = Fin.cons ⟨0, Nat.one_pos⟩ y := Shape.reshapeEquiv_cons_one h y

/-- An index of the argument is given by its last two coordinates. -/
theorem xIx_ext {r : Fin 8192} {k : Fin 2048} {x : S1x8192x2048.Idx} (h1 : r.val = (x 1).val) (h2 : k.val = (x 2).val) : xIx r k = x := by
  funext a
  match a with
  | ⟨0, _⟩ => exact Subsingleton.elim (α := Fin 1) _ _
  | ⟨1, _⟩ => exact Fin.ext h1
  | ⟨2, _⟩ => exact Fin.ext h2

/-- The row and column of the argument that a place of a chunk of the neighbour's columns is. -/
theorem at_xP (d : Dev nD) (c : Fin 12) (y : S152x1024.Idx) :
    ((xP xB d c).view.emb y 1).val = blk d + 152 * c.val + (y 0).val ∧ ((xP xB d c).view.emb y 2).val = 1024 - col d + (y 1).val := by
  have e : (xP xB d c).view.emb y = (Rect.unit (s := S1x8192x2048) (k0_off2 d (BitVec.ofNat 32 (152 * c.val))) S1x152x1024.size (k0_off2_inb d c)).emb (Fin.cons ⟨0, Nat.one_pos⟩ y) :=
    congrArg (Rect.unit (s := S1x8192x2048) (k0_off2 d (BitVec.ofNat 32 (152 * c.val))) S1x152x1024.size (k0_off2_inb d c)).emb (unsq152 _ y)
  rw [e]
  constructor
  · show k0_off2 d (BitVec.ofNat 32 (152 * c.val)) 1 + 1 * (y 0).val = _
    rw [off2_at, Nat.one_mul]; rfl
  · show k0_off2 d (BitVec.ofNat 32 (152 * c.val)) 2 + 1 * (y 1).val = _
    rw [off2_at, Nat.one_mul]; rfl
/-- The row and column of the argument that a place of a chunk of the device's own columns is. -/
theorem at_xM (d : Dev nD) (c : Fin 12) (y : S152x1024.Idx) :
    ((xM xB d c).view.emb y 1).val = blk d + 152 * c.val + (y 0).val ∧ ((xM xB d c).view.emb y 2).val = col d + (y 1).val := by
  have e : (xM xB d c).view.emb y = (Rect.unit (s := S1x8192x2048) (k0_off3 d (BitVec.ofNat 32 (152 * c.val))) S1x152x1024.size (k0_off3_inb d c)).emb (Fin.cons ⟨0, Nat.one_pos⟩ y) :=
    congrArg (Rect.unit (s := S1x8192x2048) (k0_off3 d (BitVec.ofNat 32 (152 * c.val))) S1x152x1024.size (k0_off3_inb d c)).emb (unsq152 _ y)
  rw [e]
  constructor
  · show k0_off3 d (BitVec.ofNat 32 (152 * c.val)) 1 + 1 * (y 0).val = _
    rw [off3_at, Nat.one_mul]; rfl
  · show k0_off3 d (BitVec.ofNat 32 (152 * c.val)) 2 + 1 * (y 1).val = _
    rw [off3_at, Nat.one_mul]; rfl
/-- The row and column of the argument that a place of a kept chunk of the neighbour's columns is. -/
theorem at_xUP (d : Dev nD) (j : Fin 4) (y : S224x1024.Idx) :
    ((xUP xB d j).view.emb y 1).val = 7296 + 224 * j.val + (y 0).val ∧ ((xUP xB d j).view.emb y 2).val = 1024 - col d + (y 1).val := by
  have e : (xUP xB d j).view.emb y = (Rect.unit (s := S1x8192x2048) (offUP d j) S1x224x1024.size (offUP_inb d j)).emb (Fin.cons ⟨0, Nat.one_pos⟩ y) :=
    congrArg (Rect.unit (s := S1x8192x2048) (offUP d j) S1x224x1024.size (offUP_inb d j)).emb (unsq224 _ y)
  rw [e]
  constructor
  · show offUP d j 1 + 1 * (y 0).val = _
    rw [offUP_at, Nat.one_mul]; rfl
  · show offUP d j 2 + 1 * (y 1).val = _
    rw [offUP_at, Nat.one_mul]; rfl
/-- The row and column of the argument that a place of a kept chunk of the device's own columns is. -/
theorem at_xUM (d : Dev nD) (j : Fin 4) (y : S224x1024.Idx) :
    ((xUM xB d j).view.emb y 1).val = 7296 + 224 * j.val + (y 0).val ∧ ((xUM xB d j).view.emb y 2).val = col d + (y 1).val := by
  have e : (xUM xB d j).view.emb y = (Rect.unit (s := S1x8192x2048) (offUM d j) S1x224x1024.size (offUM_inb d j)).emb (Fin.cons ⟨0, Nat.one_pos⟩ y) :=
    congrArg (Rect.unit (s := S1x8192x2048) (offUM d j) S1x224x1024.size (offUM_inb d j)).emb (unsq224 _ y)
  rw [e]
  constructor
  · show offUM d j 1 + 1 * (y 0).val = _
    rw [offUM_at, Nat.one_mul]; rfl
  · show offUM d j 2 + 1 * (y 1).val = _
    rw [offUM_at, Nat.one_mul]; rfl

/-- The row and column of the result that a place of a chunk is. -/
theorem at_oC (d : Dev nD) (c : Fin 12) (y : S152x1024.Idx) :
    ((oC oB d c).view.emb y 0).val = blk d + 152 * c.val + (y 0).val ∧ ((oC oB d c).view.emb y 1).val = (y 1).val := by
  constructor
  · show k0_off1 d (BitVec.ofNat 32 (152 * c.val)) 0 + 1 * (y 0).val = _
    rw [off1_at, Nat.one_mul]; rfl
  · show k0_off1 d (BitVec.ofNat 32 (152 * c.val)) 1 + 1 * (y 1).val = _
    rw [off1_at, Nat.one_mul]; exact Nat.zero_add _
/-- The row and column of the result that a place of a kept chunk is. -/
theorem at_oU (j : Fin 4) (y : S224x1024.Idx) :
    ((oU oB j).view.emb y 0).val = 7296 + 224 * j.val + (y 0).val ∧ ((oU oB j).view.emb y 1).val = (y 1).val := by
  constructor
  · show 7296 + 224 * j.val + 1 * (y 0).val = _
    rw [Nat.one_mul]
  · show 0 + 1 * (y 1).val = _
    rw [Nat.one_mul]; exact Nat.zero_add _
/-- The row and column of the scratch copy that a place of a chunk is. -/
theorem at_vC (c : Fin 12) (y : S152x1024.Idx) :
    ((vC vB c).view.emb y 0).val = 152 * c.val + (y 0).val ∧ ((vC vB c).view.emb y 1).val = (y 1).val := by
  constructor
  · show 152 * c.val + 1 * (y 0).val = _
    rw [Nat.one_mul]
  · show 0 + 1 * (y 1).val = _
    rw [Nat.one_mul]; exact Nat.zero_add _
/-- The row and column of the scratch copy that a place of a kept chunk is. -/
theorem at_vU (j : Fin 4) (y : S224x1024.Idx) :
    ((vU vB j).view.emb y 0).val = 1824 + 224 * j.val + (y 0).val ∧ ((vU vB j).view.emb y 1).val = (y 1).val := by
  constructor
  · show 1824 + 224 * j.val + 1 * (y 0).val = _
    rw [Nat.one_mul]
  · show 0 + 1 * (y 1).val = _
    rw [Nat.one_mul]; exact Nat.zero_add _

/-- A chunk sent across `y` is the receiver's columns of the sender's argument. -/
theorem read_xP (d : Dev nD) (c : Fin 12) :
    (oC oB d c).view.read (Elt F) (Yc m (pY d)) = (xP xB d c).view.read (Elt F) (m (xLoc d)) := by
  funext y
  show m (xLoc (pY (pY d))) (xIx ((oC oB d c).view.emb y 0) (colAt (pY d) ((oC oB d c).view.emb y 1))) = m (xLoc d) ((xP xB d c).view.emb y)
  rw [pY_pY]
  congr 1
  refine xIx_ext ?_ ?_
  · rw [(at_oC d c y).1, (at_xP d c y).1]
  · show col (pY d) + ((oC oB d c).view.emb y 1).val = _
    rw [(at_oC d c y).2, (at_xP d c y).2, col_pY]
/-- A kept chunk sent across `y` is the receiver's columns of the sender's argument. -/
theorem read_xUP (d : Dev nD) (j : Fin 4) :
    (oU oB j).view.read (Elt F) (Yc m (pY d)) = (xUP xB d j).view.read (Elt F) (m (xLoc d)) := by
  funext y
  show m (xLoc (pY (pY d))) (xIx ((oU oB j).view.emb y 0) (colAt (pY d) ((oU oB j).view.emb y 1))) = m (xLoc d) ((xUP xB d j).view.emb y)
  rw [pY_pY]
  congr 1
  refine xIx_ext ?_ ?_
  · rw [(at_oU j y).1, (at_xUP d j y).1]
  · show col (pY d) + ((oU oB j).view.emb y 1).val = _
    rw [(at_oU j y).2, (at_xUP d j y).2, col_pY]

/-- The first rows of the scratch copy are those of the device's block. -/
theorem vRow_lo (d : Dev nD) (r : Fin 2720) (h : r.val < 1824) : (vRow d r).val = blk d + r.val := by
  unfold vRow; rw [dif_pos h]
/-- The later rows of the scratch copy are the kept ones. -/
theorem vRow_hi (d : Dev nD) (r : Fin 2720) (h : 1824 ≤ r.val) : (vRow d r).val = 5472 + r.val := by
  unfold vRow; rw [dif_neg (Nat.not_lt.mpr h)]

/-- A chunk copied locally is the device's columns of its argument. -/
theorem read_xM (d : Dev nD) (c : Fin 12) :
    (vC vB c).view.read (Elt F) (Wc m d) = (xM xB d c).view.read (Elt F) (m (xLoc d)) := by
  funext y
  show m (xLoc d) (xIx (vRow d ((vC vB c).view.emb y 0)) (colAt d ((vC vB c).view.emb y 1))) = m (xLoc d) ((xM xB d c).view.emb y)
  congr 1
  have h0 := (at_vC c y).1
  have hy : (y 0).val < 152 := (y 0).isLt
  refine xIx_ext ?_ ?_
  · refine (vRow_lo d ((vC vB c).view.emb y 0) (by rw [h0]; have := c.isLt; omega)).trans ?_
    rw [h0, (at_xM d c y).1]; omega
  · show col d + ((vC vB c).view.emb y 1).val = _
    rw [(at_vC c y).2, (at_xM d c y).2]
/-- A kept chunk copied locally is the device's columns of its argument. -/
theorem read_xUM (d : Dev nD) (j : Fin 4) :
    (vU vB j).view.read (Elt F) (Wc m d) = (xUM xB d j).view.read (Elt F) (m (xLoc d)) := by
  funext y
  show m (xLoc d) (xIx (vRow d ((vU vB j).view.emb y 0)) (colAt d ((vU vB j).view.emb y 1))) = m (xLoc d) ((xUM xB d j).view.emb y)
  congr 1
  have h0 := (at_vU j y).1
  refine xIx_ext ?_ ?_
  · refine (vRow_hi d ((vU vB j).view.emb y 0) (by rw [h0]; omega)).trans ?_
    rw [h0, (at_xUM d j y).1]; omega
  · show col d + ((vU vB j).view.emb y 1).val = _
    rw [(at_vU j y).2, (at_xUM d j y).2]

/-- The rectangle of chunk `c` that the sum is stored through. -/
abbrev rC (d : Dev nD) (c : Fin 12) : Rect S8192x1024 := Rect.unit (s := S8192x1024) (k0_off12 d (BitVec.ofNat 32 (152 * c.val))) S152x1024.size (k0_off12_inb d c)
/-- The rectangle of chunk `c` that is read from the scratch copy. -/
abbrev rV (c : Fin 12) : Rect S2720x1024 := Rect.unit (s := S2720x1024) ![152 * c.val, 0] S152x1024.size (fitsV c)
/-- The rectangle of kept chunk `j` that the sum is stored through. -/
abbrev rU' (j : Fin 4) : Rect S8192x1024 := Rect.unit (s := S8192x1024) ![7296 + 224 * j.val, 0] S224x1024.size (fitsU j)
/-- The rectangle of kept chunk `j` that is read from the scratch copy. -/
abbrev rVU (j : Fin 4) : Rect S2720x1024 := Rect.unit (s := S2720x1024) ![1824 + 224 * j.val, 0] S224x1024.size (fitsVU j)

/-- The rows of the rectangle that a chunk's sum is stored through. -/
theorem set_rC (d : Dev nD) (c : Fin 12) : (rC d c).set = oSet (blk d + 152 * c.val) 152 := oSet_rect _ _ 152 (off12_at d c) _
/-- The rows of the rectangle that a chunk is read from the scratch copy through. -/
theorem set_rV (c : Fin 12) : (rV c).set = vSet (152 * c.val) 152 := vSet_rect _ _ 152 rfl _
/-- The rows of the rectangle that a kept chunk's sum is stored through. -/
theorem set_rU (j : Fin 4) : (rU' j).set = oSet (7296 + 224 * j.val) 224 := oSet_rect _ _ 224 rfl _
/-- The rows of the rectangle that a kept chunk is read from the scratch copy through. -/
theorem set_rVU (j : Fin 4) : (rVU j).set = vSet (1824 + 224 * j.val) 224 := vSet_rect _ _ 224 rfl _

/-- Reading in the shape it has changes nothing. -/
theorem same_shape {s : Shape} (v : s.Idx → F .f32) (h : s.ShapeCasts s) : shapeCast s v h = v :=
  funext fun i => congrArg v (Shape.reshapeEquiv_self _ i)

/-- What is stored for chunk `c` is the sum of what came and of the device's own. -/
theorem read_sumC (d : Dev nD) (c : Fin 12) :
    (oB.access (rC d c)).read (Elt F) (Sc m d)
      = k0_pay1 ((oB.access (rC d c)).read (Elt F) (Yc m d)) ((vB.access (rV c)).read (Elt F) (Wc m d)) := by
  unfold k0_pay1
  dsimp only
  rw [same_shape]
  funext y
  show FloatOps.addf (φ := .f32) (Yc m d ((rC d c).emb y)) (Xc m d ((rC d c).emb y)) = FloatOps.addf (φ := .f32) (Yc m d ((rC d c).emb y)) (Wc m d ((rV c).emb y))
  congr 1
  show m (xLoc d) _ = m (xLoc d) _
  have h0 : ((rV c).emb y 0).val = 152 * c.val + (y 0).val := by show 152 * c.val + 1 * (y 0).val = _; omega
  have h1 : ((rC d c).emb y 0).val = blk d + 152 * c.val + (y 0).val := by
    show k0_off12 d (BitVec.ofNat 32 (152 * c.val)) 0 + 1 * (y 0).val = _
    rw [off12_at, Nat.one_mul]; rfl
  have h2 : ((rC d c).emb y 1).val = (y 1).val := by
    show k0_off12 d (BitVec.ofNat 32 (152 * c.val)) 1 + 1 * (y 1).val = _
    rw [off12_at, Nat.one_mul]; exact Nat.zero_add _
  have h3 : ((rV c).emb y 1).val = (y 1).val := by show 0 + 1 * (y 1).val = _; omega
  have hy : (y 0).val < 152 := (y 0).isLt
  congr 1
  refine xIx_ext ?_ ?_
  · show ((rC d c).emb y 0).val = (vRow d ((rV c).emb y 0)).val
    refine Eq.trans ?_ (vRow_lo d ((rV c).emb y 0) (by rw [h0]; have := c.isLt; omega)).symm
    rw [h0, h1]; omega
  · show col d + ((rC d c).emb y 1).val = col d + ((rV c).emb y 1).val
    rw [h2, h3]
/-- What is stored for kept chunk `j` is the sum of what came and of the device's own. -/
theorem read_sumU (d : Dev nD) (j : Fin 4) :
    (oB.access (rU' j)).read (Elt F) (Sc m d)
      = k0_pay14 ((oB.access (rU' j)).read (Elt F) (Yc m d)) ((vB.access (rVU j)).read (Elt F) (Wc m d)) := by
  unfold k0_pay14
  dsimp only
  rw [same_shape]
  funext y
  show FloatOps.addf (φ := .f32) (Yc m d ((rU' j).emb y)) (Xc m d ((rU' j).emb y)) = FloatOps.addf (φ := .f32) (Yc m d ((rU' j).emb y)) (Wc m d ((rVU j).emb y))
  congr 1
  show m (xLoc d) _ = m (xLoc d) _
  have h0 : ((rVU j).emb y 0).val = 1824 + 224 * j.val + (y 0).val := by show 1824 + 224 * j.val + 1 * (y 0).val = _; omega
  have h1 : ((rU' j).emb y 0).val = 7296 + 224 * j.val + (y 0).val := by show 7296 + 224 * j.val + 1 * (y 0).val = _; omega
  have h2 : ((rU' j).emb y 1).val = (y 1).val := by show 0 + 1 * (y 1).val = _; omega
  have h3 : ((rVU j).emb y 1).val = (y 1).val := by show 0 + 1 * (y 1).val = _; omega
  congr 1
  refine xIx_ext ?_ ?_
  · show ((rU' j).emb y 0).val = (vRow d ((rVU j).emb y 0)).val
    refine Eq.trans ?_ (vRow_hi d ((rVU j).emb y 0) (by rw [h0]; omega)).symm
    rw [h0, h1]; omega
  · show col d + ((rU' j).emb y 1).val = col d + ((rVU j).emb y 1).val
    rw [h2, h3]

/-- What a store of rows leaves, by what those rows read as. -/
theorem store_rows (d : Dev nD) (r : Rect S8192x1024) (a n : ℕ) (hr : r.set = oSet a n) (fd g : OutC (F := F)) (w : r.shape.Idx → F .f32)
    (h : (oB.access r).read (Elt F) g = w) :
    (oLoc d ↦[oSet a n]{fullShare} ((oB.access r).write (Elt F) fd w Finset.univ : Buf (Elt F) (oLoc d)) : sProp 𝕄) = oPt d fullShare a n g := by
  unfold oPt
  exact pointsTo_congr fun i hi => land (oB.access r) w fd g h i (by rw [← hr] at hi; exact (View.set_slice_whole cc0_stg0_0 r).symm ▸ hi)

end Cert.KernelIdeal.Own

end
-- ==== Proof.ISteps.lean ====
module

public import proofs.«01_k».proof.Proof.IGeom

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kd

variable {F : FTy → Type} [FloatOps F]

local notation "𝕄" => MT nD τ sig Unit (Elt F) ℕ UU ℕ

/-- No loop of the kernel needs a measure. -/
abbrev 𝒱₀ : Variants := Variants.none

/-- A program of device `d` ends at `Q`. -/
abbrev WP (d : Dev nD) (p : Prog (TpuEff nD τ sig (Elt F) Λ₀ .tc) PUnit) (Q : PUnit → sProp 𝕄) : sProp 𝕄 :=
  wp frame (wpE (defs₀ (F := F)) 𝒱₀ (d : Thread nD τ) none) Set.univ p Q

variable (m : (ℓ : Loc nD τ sig) → Buf (Elt F) ℓ) (K : Dev nD × Option Kd → ℕ)

/-! ## What everybody knows and what a device holds -/

/-- Every cell keeps its schedule and is at its round, and every cell has its level. -/
def recs : sProp 𝕄 :=
  iprop((bigSep Finset.univ fun p : Dev nD × Option Kd => cellInv ER (sched m) (K p) (gcell p.1 p.2))
    ∗ (bigSep Finset.univ fun p : Dev nD × Option Kd => reached ER (gcell p.1 p.2) 0) ∗ levAts L lv)

/-- What everybody knows can be used again and again. -/
instance recs_persistent : BI.Persistent (recs m K : sProp 𝕄) := by unfold recs; infer_instance

/-- What is known of one cell. -/
theorem recs_at (d : Dev nD) (o : Option Kd) :
    (recs m K : sProp 𝕄) ⊢ iprop(cellInv ER (sched m) (K (d, o)) (gcell d o) ∗ reached ER (gcell d o) 0) := by
  unfold recs
  have h1 : (bigSep Finset.univ fun p : Dev nD × Option Kd => cellInv ER (sched m) (K p) (gcell p.1 p.2) : sProp 𝕄) ⊢ cellInv ER (sched m) (K (d, o)) (gcell d o) :=
    bigSep_elim (Finset.mem_univ (d, o))
  have h2 : (bigSep Finset.univ fun p : Dev nD × Option Kd => reached ER (gcell p.1 p.2) 0 : sProp 𝕄) ⊢ reached ER (gcell d o) 0 :=
    bigSep_elim (Finset.mem_univ (d, o))
  iintro ⟨H1, H2, -⟩
  isplitl [H1]
  · iapply h1; iexact H1
  · iapply h2; iexact H2
/-- The levels are known. -/
theorem recs_lev : (recs m K : sProp 𝕄) ⊢ levAts L lv := by
  unfold recs; iintro ⟨-, -, H⟩; iexact H

/-- What the device owes. -/
def ow (d : Dev nD) (O : CellTallies nD τ sig Unit) : sProp 𝕄 := iprop(∃ W, owes (d : Thread nD τ) O W)
/-- The right to wait for a copy. -/
def held (d : Dev nD) (k : Kd) : sProp 𝕄 := cred (tallyAt (cell d k) () (amt k))
/-- A cell before its round. -/
def pos (d : Dev nD) (k : Kd) : sProp 𝕄 := atPos ER (cell d k) 0 ∅ 0
/-- The right to pay a cell. -/
def tok (d : Dev nD) (k : Kd) : sProp 𝕄 := dutyTok ER (cell d k) 0 0
/-- A cell's counter back at zero. -/
def zero (d : Dev nD) (k : Kd) : sProp 𝕄 := semVal (cell d k) 0

/-! ## One operation -/

section Ops
variable {sp sp' : Space} {S : Shape} {el : EltTy}

/-- Sending to another device pays the receiver's cell now and the sender's own later. -/
theorem send {Q : PUnit → sProp 𝕄} (d e : Dev nD) (ks kr : Kd) {src : Memref sig .tc sp S el} {dst : Memref sig .tc sp' S el} {sS sem : SemLoc sig}
    {hsc : (dst : Memref sig (Dev.tc e : Thread nD τ).2.kind sp' S el).view.ref.isScScratch = false}
    {hsrc : src.view.WordExact} {hdst : dst.view.WordExact} {hsem : DmaTarget.Typed sp sem (.remote (Dev.tc e : Thread nD τ) dst sS hsc)}
    {k : PUnit → Prog (TpuEff nD τ sig (Elt F) Λ₀ .tc) PUnit} {q : PosShare TreeShare}
    {fs : Buf (Elt F) (src.view.loc (d : Thread nD τ))} {fd : Buf (Elt F) (dst.view.loc (e : Thread nD τ))}
    (hS : sS = .dma (num ks)) (hR : sem = .dma (num kr)) (hN : dst.view.dmaCredit = amt ks) (hN' : dst.view.dmaCredit = amt kr)
    (O : CellTallies nD τ sig Unit)
    (hp₁ : (src.view.loc (d : Thread nD τ) ↦[src.view.set]{q} fs : sProp 𝕄) ⊢ pay m d ks)
    (hp₂ : (dst.view.loc (e : Thread nD τ) ↦[dst.view.set]{fullShare} (dst.view.write (Elt F) fd (src.view.read (Elt F) fs) Finset.univ) : sProp 𝕄) ⊢ pay m e kr) :
    iprop(recs m K ∗ (src.view.loc (d : Thread nD τ) ↦[src.view.set]{q} fs) ∗ (dst.view.loc (e : Thread nD τ) ↦[dst.view.set]{fullShare} fd)
        ∗ tok d ks ∗ tok e kr ∗ ow d (O + tallyAt (cell e kr) () (amt kr)))
      ⊢ iprop((held d ks ∗ ow d O -∗ WP d (k ⟨⟩) Q)
          -∗ WP d (.op (.enqueueDma src (.remote (Dev.tc e : Thread nD τ) dst sS hsc) sem hsrc hdst hsem) k) Q) := by
  subst hS hR
  unfold ow tok held
  iintro ⟨#HG, Hs, Hd, Ht1, Ht2, ⟨%W, HO⟩⟩ Hk
  ihave H1 := (recs_at m K d (some ks)) $$ HG
  ihave H2 := (recs_at m K e (some kr)) $$ HG
  icases H1 with ⟨Hi1, Hr1⟩
  icases H2 with ⟨Hi2, Hr2⟩
  iapply (Rounds.wp_send_pointsTo 𝒱₀ ER (sched m) (d : Thread nD τ) none (κ₁ := K (d, some ks)) (κ₂ := K (e, some kr))
    (r₁ := 0) (r₂ := 0) (d₁ := 0) (d₂ := 0) (fd := fd)
    (by rw [show (((d : Thread nD τ), SemLoc.dma (num ks)) : GSem nD τ sig) = cell d ks from rfl, duties_cell]; exact Finset.mem_singleton_self _)
    (by rw [show (((e : Thread nD τ), SemLoc.dma (num kr)) : GSem nD τ sig) = cell e kr from rfl, duties_cell]; exact Finset.mem_singleton_self _)
    () () (amt kr) (show dst.view.amount (.dma (num kr)) = amt kr from hN') ((amount_cell m d ks 0).trans (hN.symm.trans hN')) (amount_cell m e kr 0) O rfl (W := W)
    (hp₁.trans (Entails.of_eq (payload_cell m d ks 0).symm)) (hp₂.trans (Entails.of_eq (payload_cell m e kr 0).symm))) $$ [Hi1 Hi2 Hs Hd HO Ht1 Hr1 Ht2 Hr2]
  · isplitl [Hi1]; · iexact Hi1
    isplitl [Hi2]; · iexact Hi2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]
  · rw [← hN.symm.trans hN']; iexact Hc
  · iexists W; iexact HO

/-- Copying locally pays the device's own cell. -/
theorem copy {Q : PUnit → sProp 𝕄} (d : Dev nD) (kk : Kd) {src : Memref sig .tc sp S el} {dst : Memref sig .tc sp' S el} {sem : SemLoc sig}
    {hsrc : src.view.WordExact} {hdst : dst.view.WordExact} {hsem : DmaTarget.Typed (nD := nD) (τ := τ) (p := (.tc : Proc τ)) sp sem (.here dst)}
    {k : PUnit → Prog (TpuEff nD τ sig (Elt F) Λ₀ .tc) PUnit} {q : PosShare TreeShare}
    {fs : Buf (Elt F) (src.view.loc (d : Thread nD τ))} {fd : Buf (Elt F) (dst.view.loc (d : Thread nD τ))}
    (hR : sem = .dma (num kk)) (hN : dst.view.dmaCredit = amt kk)
    (hp : (dst.view.loc (d : Thread nD τ) ↦[dst.view.set]{fullShare} (dst.view.write (Elt F) fd (src.view.read (Elt F) fs) Finset.univ) : sProp 𝕄) ⊢ pay m d kk) :
    iprop(recs m K ∗ (src.view.loc (d : Thread nD τ) ↦[src.view.set]{q} fs) ∗ (dst.view.loc (d : Thread nD τ) ↦[dst.view.set]{fullShare} fd) ∗ tok d kk)
      ⊢ iprop((held d kk -∗ WP d (k ⟨⟩) Q) -∗ WP d (.op (.enqueueDma src (.here dst) sem hsrc hdst hsem) k) Q) := by
  subst hR
  unfold tok held
  have hp' : ∀ R : sProp 𝕄, iprop((dst.view.loc (d : Thread nD τ) ↦[dst.view.set]{fullShare} (dst.view.write (Elt F) fd (src.view.read (Elt F) fs) Finset.univ)) ∗ R)
      ⊢ (sched m).payload (cell d kk) 0 0 := fun R => by
    rw [payload_cell]
    iintro ⟨H, -⟩
    iapply hp; iexact H
  iintro ⟨#HG, Hs, Hd, Ht⟩ Hk
  ihave H1 := (recs_at m K d (some kk)) $$ HG
  icases H1 with ⟨Hi1, Hr1⟩
  iapply (Rounds.wp_copy_pointsTo 𝒱₀ ER (sched m) (d : Thread nD τ) none (κ := K (d, some kk)) (r := 0) (d := 0) (fd := fd)
    (by rw [show (((d : Thread nD τ), SemLoc.dma (num kk)) : GSem nD τ sig) = cell d kk from rfl, duties_cell]; exact Finset.mem_singleton_self _)
    () (amt kk) (show dst.view.amount (.dma (num kk)) = amt kk from hN) (amount_cell m d kk 0)
    (hp' _)) $$ [Hi1 Hs Hd Ht Hr1]
  · isplitl [Hi1]; · iexact Hi1
    isplitl [Hs]; · iexact Hs
    isplitl [Hd]; · iexact Hd
    isplitl [Ht]; · iexact Ht
    iexact Hr1
  iexact Hk

/-- Waiting for a copy yields what its end hands over; its cell is done. -/
theorem await {Q : PUnit → sProp 𝕄} (d : Dev nD) (kk : Kd) {src : Memref sig .tc sp S el} {dst : Memref sig .tc sp' S el} {s : DmaSem sig}
    {hsrc : src.view.WordExact} {hdst : dst.view.WordExact}
    {k : PUnit → Prog (TpuEff nD τ sig (Elt F) Λ₀ .tc) PUnit}
    (hs : s = num kk) (hN : dst.view.dmaCredit = amt kk) (O : CellTallies nD τ sig Unit) (hO : Above (lvK kk) O) :
    iprop(recs m K ∗ held d kk ∗ pos d kk ∗ ow d O)
      ⊢ iprop((ow d O ∗ pay m d kk ∗ zero d kk -∗ WP d (k ⟨⟩) Q) -∗ WP d (.op (.waitDma2 s src dst hsrc hdst) k) Q) := by
  subst hs
  unfold held pos ow zero
  iintro ⟨#HG, Hc, Hat, ⟨%W, HO⟩⟩ Hk
  ihave H1 := (recs_at m K d (some kk)) $$ HG
  icases H1 with ⟨#Hi, -⟩
  iapply (Rounds.wp_wait_rest_token 𝒱₀ ER (sched m) (d : Thread nD τ) none (κ := K (d, some kk))
      (wpE_waitDma2_eq 𝒱₀ (d : Thread nD τ) none Set.univ) (Set.mem_univ _) () (O := O) (W := W) (R := 0) (m := 0) (T := ∅)
      (by rw [Nat.zero_add, hN]; exact (expect_cell m d kk).symm)) $$ [Hc HO Hat]
  · isplitr; · iexact Hi
    isplitl [Hc]; · rw [hN]; iexact Hc
    isplitl [HO]; · iexact HO
    isplitr
    · iapply (mayWait d (.dma (num kk)) (lvK kk) O (le_of_eq (lv_cell d kk ())) hO)
      iapply (recs_lev m K); iexact HG
    iexact Hat
  iintro ⟨HO, Hat, -, Hpay⟩
  ihave Hp := (Entails.of_eq (show bigSep ((sched (F := F) m).duties ((d : Thread nD τ), SemLoc.dma (num kk)) 0 \ ∅) (fun j => (sched (F := F) m).payload ((d : Thread nD τ), SemLoc.dma (num kk)) 0 j) = pay m d kk from rest_cell m d kk)) $$ Hpay
  imod (Rounds.cell_close ER (sched m) (Set.mem_univ (K (d, some kk))) (fun h => h) (R := 0 + 1) (duties_later m (cell d kk))) $$ [Hat] with Hz
  · isplitr; · iexact Hi
    iexact Hat
  iapply Hk
  isplitl [HO]; · iexists _; iexact HO
  isplitl [Hp]; · iexact Hp
  iexact Hz

end Ops

/-! ## A loop -/

/-- What a loop pays, all of it. -/
def tl {ι : Type} (t : ι → CellTallies nD τ sig Unit) : List ι → CellTallies nD τ sig Unit
  | [] => 0
  | i :: l => tl t l + t i

/-- A loop whose turns pay nothing pays nothing. -/
theorem tl_zero {ι : Type} (l : List ι) : tl (fun _ => 0) l = 0 := by
  induction l with
  | nil => rfl
  | cons i l ih => show tl (fun _ => 0) l + 0 = 0; rw [ih, add_zero]

/-- A loop whose turns pay above a level pays above it. -/
theorem tl_above {ι : Type} {n : ℕ} {t : ι → CellTallies nD τ sig Unit} (h : ∀ i, Above n (t i)) (l : List ι) : Above n (tl t l) := by
  induction l with
  | nil => exact .zero n
  | cons i l ih => exact ih.add (h i)

/-- A loop takes what each of its turns takes and leaves what each leaves. -/
theorem loop_rule {ι : Type} (d : Dev nD) (f : ι → Prog (TpuEff nD τ sig (Elt F) Λ₀ .tc) PUnit) (Pre Post : ι → sProp 𝕄)
    (t : ι → CellTallies nD τ sig Unit) (n : ℕ) (ht : ∀ i, Above n (t i))
    (step : ∀ i O (Kt : PUnit → sProp 𝕄), Above n O → iprop(recs m K ∗ Pre i ∗ ow d (O + t i) ∗ (Post i ∗ ow d O -∗ Kt ⟨⟩)) ⊢ WP d (f i) Kt) :
    ∀ (l : List ι) O (Kt : PUnit → sProp 𝕄), Above n O →
      iprop(recs m K ∗ row Pre l ∗ ow d (O + tl t l) ∗ (row Post l ∗ ow d O -∗ Kt ⟨⟩)) ⊢ WP d (loop f l) Kt := by
  intro l
  induction l with
  | nil =>
    intro O Kt hO
    show _ ⊢ WP d (.ret ⟨⟩) Kt
    unfold WP
    rw [wp_ret, show O + tl t [] = O from add_zero O]
    iintro ⟨-, -, HO, Hk⟩
    imodintro
    iapply Hk
    isplitr
    · unfold row; iempintro
    · iexact HO
  | cons i l ih =>
    intro O Kt hO
    show _ ⊢ WP d (f i >>= fun _ => loop f l) Kt
    unfold WP
    rw [wp_bind, show O + tl t (i :: l) = (O + tl t l) + t i from (add_assoc _ _ _).symm]
    show iprop(recs m K ∗ (Pre i ∗ row Pre l) ∗ ow d ((O + tl t l) + t i) ∗ ((Post i ∗ row Post l) ∗ ow d O -∗ Kt ⟨⟩)) ⊢ _
    iintro ⟨#HG, ⟨HP, HPs⟩, HO, Hk⟩
    iapply (step i (O + tl t l) (fun _ => WP d (loop f l) Kt) (hO.add (tl_above ht l)))
    isplitr; · iexact HG
    isplitl [HP]; · iexact HP
    isplitl [HO]; · iexact HO
    iintro ⟨HQ, HO⟩
    iapply (ih O Kt hO)
    isplitr; · iexact HG
    isplitl [HPs]; · iexact HPs
    isplitl [HO]; · iexact HO
    iintro ⟨HQs, HO⟩
    iapply Hk
    isplitr [HO]
    · isplitl [HQ] <;> iassumption
    · iexact HO

end Cert.KernelIdeal.Own

end
-- ==== Proof.ITurns.lean ====
module

public import proofs.«01_k».proof.Proof.ISteps

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kd

variable {F : FTy → Type} [FloatOps F]

local notation "𝕄" => MT nD τ sig Unit (Elt F) ℕ UU ℕ

variable (m : (ℓ : Loc nD τ sig) → Buf (Elt F) ℓ) (K : Dev nD × Option Kd → ℕ)

/-! ## Payloads -/

/-- Nothing is handed back for a part of the argument. -/
theorem pay_sY (d : Dev nD) (c : Fin 12) (P : sProp 𝕄) : P ⊢ pay m d (sY c) := by
  show P ⊢ iprop(emp)
  iintro -; iempintro
/-- Nothing is handed back for a kept part of the argument. -/
theorem pay_sU (d : Dev nD) (j : Fin 4) (P : sProp 𝕄) : P ⊢ pay m d (sU j) := by
  show P ⊢ iprop(emp)
  iintro -; iempintro

/-- A chunk that lands across `y` is what its cell hands over. -/
theorem pay_rY (d : Dev nD) (c : Fin 12) (fd : OutC (F := F)) (fs : Buf (Elt F) ((xP xB d c).view.loc (d : Thread nD τ))) (hfs : fs = m (xLoc d)) :
    ((oC oB d c).view.loc (pY d : Thread nD τ) ↦[(oC oB d c).view.set]{fullShare} ((oC oB d c).view.write (Elt F) fd ((xP xB d c).view.read (Elt F) fs) Finset.univ) : sProp 𝕄)
      ⊢ pay m (pY d) (rY c) := by
  subst hfs
  show _ ⊢ oPt (pY d) fullShare (blk (pY d) + 152 * c.val) 152 (Yc m (pY d))
  rw [blk_pY, pt_oC (pY d) d fullShare c]
  exact Entails.of_eq (pointsTo_congr (land _ _ _ _ (read_xP m d c)))
/-- A kept chunk that lands across `y` is what its cell hands over. -/
theorem pay_rU (d : Dev nD) (j : Fin 4) (fd : OutC (F := F)) (fs : Buf (Elt F) ((xUP xB d j).view.loc (d : Thread nD τ))) (hfs : fs = m (xLoc d)) :
    ((oU oB j).view.loc (pY d : Thread nD τ) ↦[(oU oB j).view.set]{fullShare} ((oU oB j).view.write (Elt F) fd ((xUP xB d j).view.read (Elt F) fs) Finset.univ) : sProp 𝕄)
      ⊢ pay m (pY d) (rU j) := by
  subst hfs
  show _ ⊢ oPt (pY d) fullShare (7296 + 224 * j.val) 224 (Yc m (pY d))
  rw [pt_oU (pY d) fullShare j]
  exact Entails.of_eq (pointsTo_congr (land _ _ _ _ (read_xUP m d j)))
/-- A chunk that is copied locally is what its cell hands over. -/
theorem pay_kC (d : Dev nD) (c : Fin 12) (fd : ScrC (F := F)) (fs : Buf (Elt F) ((xM xB d c).view.loc (d : Thread nD τ))) (hfs : fs = m (xLoc d)) :
    ((vC vB c).view.loc (d : Thread nD τ) ↦[(vC vB c).view.set]{fullShare} ((vC vB c).view.write (Elt F) fd ((xM xB d c).view.read (Elt F) fs) Finset.univ) : sProp 𝕄)
      ⊢ pay m d (kC c) := by
  subst hfs
  show _ ⊢ vPt d (152 * c.val) 152 (Wc m d)
  rw [pt_vC d c]
  exact Entails.of_eq (pointsTo_congr (land _ _ _ _ (read_xM m d c)))
/-- A kept chunk that is copied locally is what its cell hands over. -/
theorem pay_kU (d : Dev nD) (j : Fin 4) (fd : ScrC (F := F)) (fs : Buf (Elt F) ((xUM xB d j).view.loc (d : Thread nD τ))) (hfs : fs = m (xLoc d)) :
    ((vU vB j).view.loc (d : Thread nD τ) ↦[(vU vB j).view.set]{fullShare} ((vU vB j).view.write (Elt F) fd ((xUM xB d j).view.read (Elt F) fs) Finset.univ) : sProp 𝕄)
      ⊢ pay m d (kU j) := by
  subst hfs
  show _ ⊢ vPt d (1824 + 224 * j.val) 224 (Wc m d)
  rw [pt_vU d j]
  exact Entails.of_eq (pointsTo_congr (land _ _ _ _ (read_xUM m d j)))

/-- A chunk sent under its own name lands as it was. -/
theorem same_oC (d e : Dev nD) (c : Fin 12) (fd f : OutC (F := F)) :
    ((oC oB d c).view.loc (e : Thread nD τ) ↦[(oC oB d c).view.set]{fullShare} ((oC oB d c).view.write (Elt F) fd ((oC oB d c).view.read (Elt F) f) Finset.univ) : sProp 𝕄)
      ⊢ oPt e fullShare (blk d + 152 * c.val) 152 f := by
  rw [pt_oC e d fullShare c]
  exact Entails.of_eq (pointsTo_congr (land (oC oB d c).view _ fd f rfl))
/-- An even chunk passed on under its own name lands as it was. -/
theorem same_oE (d e : Dev nD) (i : Fin 6) (fd f : OutC (F := F)) :
    ((oE oB d i).view.loc (e : Thread nD τ) ↦[(oE oB d i).view.set]{fullShare} ((oE oB d i).view.write (Elt F) fd ((oE oB d i).view.read (Elt F) f) Finset.univ) : sProp 𝕄)
      ⊢ oPt e fullShare (blk (pZ d) + 152 * (ev i).val) 152 f := by
  rw [pt_oE e d fullShare i]
  exact Entails.of_eq (pointsTo_congr (land (oE oB d i).view _ fd f rfl))
/-- An odd chunk passed on under its own name lands as it was. -/
theorem same_oO (d e : Dev nD) (i : Fin 6) (fd f : OutC (F := F)) :
    ((oO oB d i).view.loc (e : Thread nD τ) ↦[(oO oB d i).view.set]{fullShare} ((oO oB d i).view.write (Elt F) fd ((oO oB d i).view.read (Elt F) f) Finset.univ) : sProp 𝕄)
      ⊢ oPt e fullShare (blk (pX d) + 152 * (od i).val) 152 f := by
  rw [pt_oO e d fullShare i]
  exact Entails.of_eq (pointsTo_congr (land (oO oB d i).view _ fd f rfl))

/-- A share of the argument gives a share of a part of it. -/
theorem xs_part (d : Dev nD) (S : Finset S1x8192x2048.Idx) :
    (xs m d : sProp 𝕄) ⊢ iprop(∃ q : PosShare TreeShare, xLoc d ↦[S]{q} m (xLoc d)) := by
  unfold xs
  iintro ⟨%q, H⟩
  ihave H2 := (pointsTo_split_subset (Finset.subset_univ S)).1 $$ H
  icases H2 with ⟨H1, -⟩
  iexists q; iexact H1

/-- Rows held in full are held in two halves. -/
theorem halves (d : Dev nD) (a n : ℕ) (f : OutC (F := F)) :
    (oPt d fullShare a n f : sProp 𝕄) ⊢ iprop(oPt d fullShare.left a n f ∗ oPt d fullShare.right a n f) := by
  unfold oPt
  exact (pointsTo_share (PosShare.mem_left_op_right fullShare)).1
/-- Two halves of rows make them held in full. -/
theorem halves_join (d : Dev nD) (a n : ℕ) (f : OutC (F := F)) :
    iprop(oPt d fullShare.left a n f ∗ oPt d fullShare.right a n f) ⊢ (oPt d fullShare a n f : sProp 𝕄) := by
  unfold oPt
  exact (pointsTo_share (PosShare.mem_left_op_right fullShare)).2

/-- A program that has ended is at its end. -/
theorem done (d : Dev nD) (Kt : PUnit → sProp 𝕄) : Kt ⟨⟩ ⊢ WP d (.ret ⟨⟩) Kt := by
  unfold WP
  rw [wp_ret]
  iintro H; imodintro; iexact H

/-! ## The turns of the loops -/

variable (d : Dev nD) (O : CellTallies nD τ sig Unit)

/-- Rows of the scratch copy at some contents. -/
def anyV (d : Dev nD) (a n : ℕ) : sProp 𝕄 := iprop(∃ f, vPt (F := F) d a n f)

/-- What starting the copies of chunk `c` takes. -/
def preC (d : Dev nD) (c : Fin 12) : sProp 𝕄 :=
  iprop(xs m d ∗ xs m d ∗ anyC (F := F) (pY d) d c ∗ anyV (F := F) d (152 * c.val) 152 ∗ tok d (sY c) ∗ tok (pY d) (rY c) ∗ tok d (kC c))
/-- What it leaves. -/
def postC (d : Dev nD) (c : Fin 12) : sProp 𝕄 := iprop(held (F := F) d (sY c) ∗ held d (kC c))
/-- What it pays. -/
def tC (d : Dev nD) (c : Fin 12) : CellTallies nD τ sig Unit := tallyAt (cell (pY d) (rY c)) () (amt (rY c))

/-- Starting the copies of a chunk: one across `y`, one local. -/
theorem turn_startC (Kt : PUnit → sProp 𝕄) (c : Fin 12) :
    iprop(recs m K ∗ preC m d c ∗ ow d (O + tC d c) ∗ (postC d c ∗ ow d O -∗ Kt ⟨⟩))
      ⊢ WP d (startC xB oB vB cc0_scratch1 cc0_scratch2 cc0_scratch13 d c) Kt := by
  unfold startC
  simp only [Prog.lift, Prog.bind_op, Prog.bind_ret, Prog.pure_eq_ret]
  unfold preC postC tC anyC anyV
  iintro ⟨#HG, ⟨Hx, Hx', ⟨%fo, Ho⟩, ⟨%fv, Hv⟩, Ht1, Ht2, Ht3⟩, HO, Hk⟩
  ihave Hp := (xs_part m d (xP xB d c).view.set) $$ Hx
  icases Hp with ⟨%q, Hp⟩
  ihave Hp' := (xs_part m d (xM xB d c).view.set) $$ Hx'
  icases Hp' with ⟨%q', Hp'⟩
  ihave Ho := (Entails.of_eq (pt_oC (pY d) d fullShare c fo)) $$ Ho
  ihave Hv := (Entails.of_eq (pt_vC d c fv)) $$ Hv
  iapply (send m K d (pY d) (sY c) (rY c) (sem := .dma (s12 cc0_scratch2 c)) (congrArg SemLoc.dma (sem_sY c)) (congrArg SemLoc.dma (sem_rY c)) (cr_oC d c) (cr_oC d c) O
    (pay_sY m d c _) (pay_rY m d c fo (m (xLoc d)) rfl)) $$ [Hp Ho Ht1 Ht2 HO]
  · isplitr; · iexact HG
    isplitl [Hp]; · iexact Hp
    isplitl [Ho]; · iexact Ho
    isplitl [Ht1]; · iexact Ht1
    isplitl [Ht2]; · iexact Ht2
    iexact HO
  iintro ⟨Hc, HO⟩
  iapply (copy m K d (kC c) (congrArg SemLoc.dma (sem_kC c)) (cr_vC c) (pay_kC m d c fv (m (xLoc d)) rfl)) $$ [Hp' Hv Ht3]
  · isplitr; · iexact HG
    isplitl [Hp']; · iexact Hp'
    isplitl [Hv]; · iexact Hv
    iexact Ht3
  iintro Hc'
  iapply (done d Kt)
  iapply Hk
  isplitr [HO]
  · isplitl [Hc] <;> iassumption
  · iexact HO

/-- What starting the copies of kept chunk `j` takes. -/
def preU (d : Dev nD) (j : Fin 4) : sProp 𝕄 :=
  iprop(xs m d ∗ xs m d ∗ anyU (F := F) (pY d) j ∗ anyV (F := F) d (1824 + 224 * j.val) 224 ∗ tok d (sU j) ∗ tok (pY d) (rU j) ∗ tok d (kU j))
/-- What it leaves. -/
def postU (d : Dev nD) (j : Fin 4) : sProp 𝕄 := iprop(held (F := F) d (sU j) ∗ held d (kU j))
/-- What it pays. -/
def tU (d : Dev nD) (j : Fin 4) : CellTallies nD τ sig Unit := tallyAt (cell (pY d) (rU j)) () (amt (rU j))

/-- Starting the copies of a kept chunk: one across `y`, one local. -/
theorem turn_startU (Kt : PUnit → sProp 𝕄) (j : Fin 4) :
    iprop(recs m K ∗ preU m d j ∗ ow d (O + tU d j) ∗ (postU d j ∗ ow d O -∗ Kt ⟨⟩))
      ⊢ WP d (startU xB oB vB cc0_scratch3 cc0_scratch4 cc0_scratch13 d j) Kt := by
  unfold startU
  simp only [Prog.lift, Prog.bind_op, Prog.bind_ret, Prog.pure_eq_ret]
  unfold preU postU tU anyU anyV
  iintro ⟨#HG, ⟨Hx, Hx', ⟨%fo, Ho⟩, ⟨%fv, Hv⟩, Ht1, Ht2, Ht3⟩, HO, Hk⟩
  ihave Hp := (xs_part m d (xUP xB d j).view.set) $$ Hx
  icases Hp with ⟨%q, Hp⟩
  ihave Hp' := (xs_part m d (xUM xB d j).view.set) $$ Hx'
  icases Hp' with ⟨%q', Hp'⟩
  ihave Ho := (Entails.of_eq (pt_oU (pY d) fullShare j fo)) $$ Ho
  ihave Hv := (Entails.of_eq (pt_vU d j fv)) $$ Hv
  iapply (send m K d (pY d) (sU j) (rU j) (sem := .dma (s4 cc0_scratch4 j)) (congrArg SemLoc.dma (sem_sU j)) (congrArg SemLoc.dma (sem_rU j)) (cr_oU j) (cr_oU j) O
    (pay_sU m d j _) (pay_rU m d j fo (m (xLoc d)) rfl)) $$ [Hp Ho Ht1 Ht2 HO]
  · isplitr; · iexact HG
    isplitl [Hp]; · iexact Hp
    isplitl [Ho]; · iexact Ho
    isplitl [Ht1]; · iexact Ht1
    isplitl [Ht2]; · iexact Ht2
    iexact HO
  iintro ⟨Hc, HO⟩
  iapply (copy m K d (kU j) (congrArg SemLoc.dma (sem_kU j)) (cr_vU j) (pay_kU m d j fv (m (xLoc d)) rfl)) $$ [Hp' Hv Ht3]
  · isplitr; · iexact HG
    isplitl [Hp']; · iexact Hp'
    isplitl [Hv]; · iexact Hv
    iexact Ht3
  iintro Hc'
  iapply (done d Kt)
  iapply Hk
  isplitr [HO]
  · isplitl [Hc] <;> iassumption
  · iexact HO

/-- What adding chunk `c` and handing it on takes. -/
def preS (d : Dev nD) (c : Fin 12) : sProp 𝕄 :=
  iprop((held (F := F) d (rY c) ∗ pos d (rY c)) ∗ (held d (kC c) ∗ pos d (kC c))
    ∗ (tok d (sX c) ∗ tok (pX d) (rX c) ∗ anyC (pX d) d c) ∗ (tok d (sZ c) ∗ tok (pZ d) (rZ c) ∗ anyC (pZ d) d c))
/-- What it leaves. -/
def postS (d : Dev nD) (c : Fin 12) : sProp 𝕄 :=
  iprop((held (F := F) d (sX c) ∗ held d (sZ c)) ∗ (zero d (rY c) ∗ zero d (kC c)) ∗ vPt d (152 * c.val) 152 (Wc m d))
/-- What it pays. -/
def tS (d : Dev nD) (c : Fin 12) : CellTallies nD τ sig Unit := tallyAt (cell (pZ d) (rZ c)) () (amt (rZ c)) + tallyAt (cell (pX d) (rX c)) () (amt (rX c))

/-- Adding a chunk once both parts are there, and sending the sum across `x` and `z`. -/
theorem turn_sumC (Kt : PUnit → sProp 𝕄) (c : Fin 12) (hO : Above 2 O) :
    iprop(recs m K ∗ preS d c ∗ ow d (O + tS d c) ∗ (postS m d c ∗ ow d O -∗ Kt ⟨⟩))
      ⊢ WP d (sumC xB oB vB cc0_scratch2 cc0_scratch5 cc0_scratch6 cc0_scratch7 cc0_scratch8 cc0_scratch13 d c) Kt := by
  have hS : Above 2 (O + tS d c) := hO.add (.add (.cell _ _ _ (by show 2 < 3; omega)) (.cell _ _ _ (by show 2 < 3; omega)))
  unfold sumC
  simp only [Prog.lift, Prog.bind_op, Prog.bind_ret, Prog.pure_eq_ret]
  unfold preS postS anyC
  iintro ⟨#HG, ⟨⟨HcY, HaY⟩, ⟨HcK, HaK⟩, ⟨HtX, HtX', ⟨%fx, HoX⟩⟩, ⟨HtZ, HtZ', ⟨%fz, HoZ⟩⟩⟩, HO, Hk⟩
  iapply (await m K d (rY c) (sem_rY c) (cr_oC d c) (O + tS d c) hS) $$ [HcY HaY HO]
  · isplitr; · iexact HG
    isplitl [HcY]; · iexact HcY
    isplitl [HaY]; · iexact HaY
    iexact HO
  iintro ⟨HO, Hy, HzY⟩
  iapply (await m K d (kC c) (sem_kC c) (cr_vC c) (O + tS d c) (hS.mono (Nat.zero_le _))) $$ [HcK HaK HO]
  · isplitr; · iexact HG
    isplitl [HcK]; · iexact HcK
    isplitl [HaK]; · iexact HaK
    iexact HO
  iintro ⟨HO, Hv, HzK⟩
  ihave Hy := (Entails.of_eq (show pay m d (rY c) = (oLoc d ↦[oSet (blk d + 152 * c.val) 152]{fullShare} (Yc m d : Buf (Elt F) (oLoc d)) : sProp 𝕄) from rfl)) $$ Hy
  ihave Hv := (Entails.of_eq (show pay m d (kC c) = (vLoc d ↦[vSet (152 * c.val) 152]{fullShare} (Wc m d : Buf (Elt F) (vLoc d)) : sProp 𝕄) from rfl)) $$ Hv
  iapply (wp_load_rect 𝒱₀ (d : Thread nD τ) none Set.univ (m := oB) (r := rC d c)
    ((View.set_slice_whole _ _).trans (set_rC d c)).subset) $$ Hy; iintro Hy
  iapply (wp_load_rect 𝒱₀ (d : Thread nD τ) none Set.univ (m := vB) (r := rV c)
    ((View.set_slice_whole _ _).trans (set_rV c)).subset) $$ Hv; iintro Hv
  iapply (wp_load_rect 𝒱₀ (d : Thread nD τ) none Set.univ (m := oB) (r := rC d c)
    ((View.set_slice_whole _ _).trans (set_rC d c)).subset) $$ Hy; iintro Hy
  iapply (wp_store 𝒱₀ (d : Thread nD τ) none Set.univ (m := oB) (r := rC d c) (Mk := Finset.univ)
    ((View.set_slice_whole _ _).trans (set_rC d c)).subset) $$ Hy; iintro Hy
  ihave Hy := (Entails.of_eq (store_rows d (rC d c) _ 152 (set_rC d c) (Yc m d) (Sc m d) _ (read_sumC m d c))) $$ Hy
  ihave Hy := (halves d _ 152 (Sc m d)) $$ Hy
  icases Hy with ⟨H1, H2⟩
  ihave H1 := (Entails.of_eq (pt_oC d d fullShare.left c (Sc m d))) $$ H1
  ihave H2 := (Entails.of_eq (pt_oC d d fullShare.right c (Sc m d))) $$ H2
  ihave HoX := (Entails.of_eq (pt_oC (pX d) d fullShare c fx)) $$ HoX
  ihave HoZ := (Entails.of_eq (pt_oC (pZ d) d fullShare c fz)) $$ HoZ
  unfold tS
  rw [← add_assoc]
  iapply (send m K d (pX d) (sX c) (rX c) (sem := .dma (s12 cc0_scratch6 c)) (congrArg SemLoc.dma (sem_sX c)) (congrArg SemLoc.dma (sem_rX c)) (cr_oC d c) (cr_oC d c)
    (O + tallyAt (cell (pZ d) (rZ c)) () (amt (rZ c)))
    (Entails.of_eq (pt_oC d d fullShare.left c (Sc m d)).symm)
    ((same_oC d (pX d) c fx (Sc m d)).trans (Entails.of_eq (show _ = sum m (pX d) fullShare (pX (pX d)) c by rw [pX_pX]; rfl)))) $$ [H1 HoX HtX HtX' HO]
  · isplitr; · iexact HG
    isplitl [H1]; · iexact H1
    isplitl [HoX]; · iexact HoX
    isplitl [HtX]; · iexact HtX
    isplitl [HtX']; · iexact HtX'
    iexact HO
  iintro ⟨HcX, HO⟩
  iapply (send m K d (pZ d) (sZ c) (rZ c) (sem := .dma (s12 cc0_scratch8 c)) (congrArg SemLoc.dma (sem_sZ c)) (congrArg SemLoc.dma (sem_rZ c)) (cr_oC d c) (cr_oC d c) O
    (Entails.of_eq (pt_oC d d fullShare.right c (Sc m d)).symm)
    ((same_oC d (pZ d) c fz (Sc m d)).trans (Entails.of_eq (show _ = sum m (pZ d) fullShare (pZ (pZ d)) c by rw [pZ_pZ]; rfl)))) $$ [H2 HoZ HtZ HtZ' HO]
  · isplitr; · iexact HG
    isplitl [H2]; · iexact H2
    isplitl [HoZ]; · iexact HoZ
    isplitl [HtZ]; · iexact HtZ
    isplitl [HtZ']; · iexact HtZ'
    iexact HO
  iintro ⟨HcZ, HO⟩
  iapply (done d Kt)
  iapply Hk
  isplitr [HO]
  · isplitl [HcX HcZ]
    · isplitl [HcX] <;> iassumption
    isplitl [HzY HzK]
    · isplitl [HzY] <;> iassumption
    unfold vPt
    iexact Hv
  · iexact HO

/-- What passing on a pair takes. -/
def preP (d : Dev nD) (i : Fin 6) : sProp 𝕄 :=
  iprop((held (F := F) d (rZ (ev i)) ∗ pos d (rZ (ev i))) ∗ (tok d (sE i) ∗ tok (pX d) (rE i) ∗ anyC (pX d) (pZ d) (ev i))
    ∗ (held d (rX (od i)) ∗ pos d (rX (od i))) ∗ (tok d (sO i) ∗ tok (pZ d) (rO i) ∗ anyC (pZ d) (pX d) (od i)))
/-- What it leaves. -/
def postP (d : Dev nD) (i : Fin 6) : sProp 𝕄 :=
  iprop((held (F := F) d (sE i) ∗ held d (sO i)) ∗ (zero d (rZ (ev i)) ∗ zero d (rX (od i))))
/-- What it pays. -/
def tP (d : Dev nD) (i : Fin 6) : CellTallies nD τ sig Unit := tallyAt (cell (pZ d) (rO i)) () (amt (rO i)) + tallyAt (cell (pX d) (rE i)) () (amt (rE i))

/-- Passing on an even chunk across `x` and an odd one across `z`, each once it has come. -/
theorem turn_passOn (Kt : PUnit → sProp 𝕄) (i : Fin 6) (hO : Above 3 O) :
    iprop(recs m K ∗ preP d i ∗ ow d (O + tP d i) ∗ (postP d i ∗ ow d O -∗ Kt ⟨⟩))
      ⊢ WP d (passOn oB cc0_scratch6 cc0_scratch8 cc0_scratch9 cc0_scratch10 cc0_scratch11 cc0_scratch12 d i) Kt := by
  have h1 : Above 3 (O + tallyAt (cell (pZ d) (rO i)) () (amt (rO i))) := hO.add (.cell _ _ _ (by show 3 < 4; omega))
  have hP : Above 3 (O + tP d i) := hO.add (.add (.cell _ _ _ (by show 3 < 4; omega)) (.cell _ _ _ (by show 3 < 4; omega)))
  unfold passOn
  simp only [Prog.lift, Prog.bind_op, Prog.bind_ret, Prog.pure_eq_ret]
  unfold preP postP anyC
  iintro ⟨#HG, ⟨⟨Hc1, Ha1⟩, ⟨Ht1, Ht1', ⟨%f1, Ho1⟩⟩, ⟨Hc2, Ha2⟩, ⟨Ht2, Ht2', ⟨%f2, Ho2⟩⟩⟩, HO, Hk⟩
  iapply (await m K d (rZ (ev i)) (sem_rZ (ev i)) (cr_oC d (ev i)) (O + tP d i) hP) $$ [Hc1 Ha1 HO]
  · isplitr; · iexact HG
    isplitl [Hc1]; · iexact Hc1
    isplitl [Ha1]; · iexact Ha1
    iexact HO
  iintro ⟨HO, H1, Hz1⟩
  ihave H1 := (Entails.of_eq (show pay m d (rZ (ev i)) = _ from pt_oE d d fullShare i (Sc m (pZ d)))) $$ H1
  ihave Ho1 := (Entails.of_eq (pt_oE (pX d) d fullShare i f1)) $$ Ho1
  unfold tP
  rw [← add_assoc]
  iapply (send m K d (pX d) (sE i) (rE i) (sem := .dma (s6 cc0_scratch10 i)) (congrArg SemLoc.dma (sem_sE i)) (congrArg SemLoc.dma (sem_rE i)) (cr_oE d i) (cr_oE d i)
    (O + tallyAt (cell (pZ d) (rO i)) () (amt (rO i)))
    (Entails.of_eq (pt_oE d d fullShare i (Sc m (pZ d))).symm)
    ((same_oE d (pX d) i f1 (Sc m (pZ d))).trans (Entails.of_eq (show _ = sum m (pX d) fullShare (pZ (pX (pX d))) (ev i) by rw [pX_pX]; rfl)))) $$ [H1 Ho1 Ht1 Ht1' HO]
  · isplitr; · iexact HG
    isplitl [H1]; · iexact H1
    isplitl [Ho1]; · iexact Ho1
    isplitl [Ht1]; · iexact Ht1
    isplitl [Ht1']; · iexact Ht1'
    iexact HO
  iintro ⟨Hs1, HO⟩
  iapply (await m K d (rX (od i)) (sem_rX (od i)) (cr_oC d (od i)) _ h1) $$ [Hc2 Ha2 HO]
  · isplitr; · iexact HG
    isplitl [Hc2]; · iexact Hc2
    isplitl [Ha2]; · iexact Ha2
    iexact HO
  iintro ⟨HO, H2, Hz2⟩
  ihave H2 := (Entails.of_eq (show pay m d (rX (od i)) = _ from pt_oO d d fullShare i (Sc m (pX d)))) $$ H2
  ihave Ho2 := (Entails.of_eq (pt_oO (pZ d) d fullShare i f2)) $$ Ho2
  iapply (send m K d (pZ d) (sO i) (rO i) (sem := .dma (s6 cc0_scratch12 i)) (congrArg SemLoc.dma (sem_sO i)) (congrArg SemLoc.dma (sem_rO i)) (cr_oO d i) (cr_oO d i) O
    (Entails.of_eq (pt_oO d d fullShare i (Sc m (pX d))).symm)
    ((same_oO d (pZ d) i f2 (Sc m (pX d))).trans (Entails.of_eq (show _ = sum m (pZ d) fullShare (pZ (pX (pZ d))) (od i) by rw [pX_pZ, pZ_pZ]; rfl)))) $$ [H2 Ho2 Ht2 Ht2' HO]
  · isplitr; · iexact HG
    isplitl [H2]; · iexact H2
    isplitl [Ho2]; · iexact Ho2
    isplitl [Ht2]; · iexact Ht2
    isplitl [Ht2']; · iexact Ht2'
    iexact HO
  iintro ⟨Hs2, HO⟩
  iapply (done d Kt)
  iapply Hk
  isplitr [HO]
  · isplitl [Hs1 Hs2]
    · isplitl [Hs1] <;> iassumption
    isplitl [Hz1] <;> iassumption
  · iexact HO

/-- What adding kept chunk `j` takes. -/
def preV (d : Dev nD) (j : Fin 4) : sProp 𝕄 := iprop((held (F := F) d (rU j) ∗ pos d (rU j)) ∗ (held d (kU j) ∗ pos d (kU j)))
/-- What it leaves. -/
def postV (d : Dev nD) (j : Fin 4) : sProp 𝕄 :=
  iprop((zero (F := F) d (rU j) ∗ zero d (kU j)) ∗ oPt d fullShare (7296 + 224 * j.val) 224 (Sc m d) ∗ vPt d (1824 + 224 * j.val) 224 (Wc m d))

/-- Adding a kept chunk once both parts are there. -/
theorem turn_sumU (Kt : PUnit → sProp 𝕄) (j : Fin 4) (hO : Above 2 O) :
    iprop(recs m K ∗ preV d j ∗ ow d (O + 0) ∗ (postV m d j ∗ ow d O -∗ Kt ⟨⟩))
      ⊢ WP d (sumU xB oB vB cc0_scratch4 cc0_scratch13 d j) Kt := by
  rw [add_zero]
  unfold sumU
  simp only [Prog.lift, Prog.bind_op, Prog.bind_ret, Prog.pure_eq_ret]
  unfold preV postV
  iintro ⟨#HG, ⟨⟨HcY, HaY⟩, ⟨HcK, HaK⟩⟩, HO, Hk⟩
  iapply (await m K d (rU j) (sem_rU j) (cr_oU j) O hO) $$ [HcY HaY HO]
  · isplitr; · iexact HG
    isplitl [HcY]; · iexact HcY
    isplitl [HaY]; · iexact HaY
    iexact HO
  iintro ⟨HO, Hy, HzY⟩
  iapply (await m K d (kU j) (sem_kU j) (cr_vU j) O (hO.mono (Nat.zero_le _))) $$ [HcK HaK HO]
  · isplitr; · iexact HG
    isplitl [HcK]; · iexact HcK
    isplitl [HaK]; · iexact HaK
    iexact HO
  iintro ⟨HO, Hv, HzK⟩
  ihave Hy := (Entails.of_eq (show pay m d (rU j) = (oLoc d ↦[oSet (7296 + 224 * j.val) 224]{fullShare} (Yc m d : Buf (Elt F) (oLoc d)) : sProp 𝕄) from rfl)) $$ Hy
  ihave Hv := (Entails.of_eq (show pay m d (kU j) = (vLoc d ↦[vSet (1824 + 224 * j.val) 224]{fullShare} (Wc m d : Buf (Elt F) (vLoc d)) : sProp 𝕄) from rfl)) $$ Hv
  iapply (wp_load_rect 𝒱₀ (d : Thread nD τ) none Set.univ (m := oB) (r := rU' j)
    ((View.set_slice_whole _ _).trans (set_rU j)).subset) $$ Hy; iintro Hy
  iapply (wp_load_rect 𝒱₀ (d : Thread nD τ) none Set.univ (m := vB) (r := rVU j)
    ((View.set_slice_whole _ _).trans (set_rVU j)).subset) $$ Hv; iintro Hv
  iapply (wp_load_rect 𝒱₀ (d : Thread nD τ) none Set.univ (m := oB) (r := rU' j)
    ((View.set_slice_whole _ _).trans (set_rU j)).subset) $$ Hy; iintro Hy
  iapply (wp_store 𝒱₀ (d : Thread nD τ) none Set.univ (m := oB) (r := rU' j) (Mk := Finset.univ)
    ((View.set_slice_whole _ _).trans (set_rU j)).subset) $$ Hy; iintro Hy
  ihave Hy := (Entails.of_eq (store_rows d (rU' j) _ 224 (set_rU j) (Yc m d) (Sc m d) _ (read_sumU m d j))) $$ Hy
  iapply (done d Kt)
  iapply Hk
  isplitr [HO]
  · isplitl [HzY HzK]
    · isplitl [HzY] <;> iassumption
    isplitl [Hy]
    · iexact Hy
    · unfold vPt; iexact Hv
  · iexact HO

/-- Waiting for one copy, in the form of a loop's turn. -/
theorem turn_one (Kt : PUnit → sProp 𝕄) (k : Kd) {sp sp' : Space} {S : Shape} {el : EltTy} {src : Memref sig .tc sp S el} {dst : Memref sig .tc sp' S el} {s : DmaSem sig}
    {hsrc : src.view.WordExact} {hdst : dst.view.WordExact} (hs : s = num k) (hN : dst.view.dmaCredit = amt k) (hO : Above (lvK k) O) :
    iprop(recs m K ∗ (held d k ∗ pos d k) ∗ ow d (O + 0) ∗ ((zero d k ∗ pay m d k) ∗ ow d O -∗ Kt ⟨⟩))
      ⊢ WP d (Prog.lift (.waitDma2 s src dst hsrc hdst)) Kt := by
  rw [add_zero]
  simp only [Prog.lift]
  iintro ⟨#HG, ⟨Hc, Ha⟩, HO, Hk⟩
  iapply (await m K d k hs hN O hO) $$ [Hc Ha HO]
  · isplitr; · iexact HG
    isplitl [Hc]; · iexact Hc
    isplitl [Ha]; · iexact Ha
    iexact HO
  iintro ⟨HO, Hp, Hz⟩
  iapply (done d Kt)
  iapply Hk
  isplitr [HO]
  · isplitl [Hz] <;> iassumption
  · iexact HO

/-- Waiting for two copies, in the form of a loop's turn. -/
theorem turn_two (Kt : PUnit → sProp 𝕄) (k k' : Kd) {sp sp' : Space} {S : Shape} {el : EltTy} {src : Memref sig .tc sp S el} {dst : Memref sig .tc sp' S el} {s : DmaSem sig}
    {hsrc : src.view.WordExact} {hdst : dst.view.WordExact} (hs : s = num k) (hN : dst.view.dmaCredit = amt k) (hO : Above (lvK k) O)
    {src' : Memref sig .tc sp S el} {dst' : Memref sig .tc sp' S el} {s' : DmaSem sig}
    {hsrc' : src'.view.WordExact} {hdst' : dst'.view.WordExact} (hs' : s' = num k') (hN' : dst'.view.dmaCredit = amt k') (hO' : Above (lvK k') O) :
    iprop(recs m K ∗ ((held d k ∗ pos d k) ∗ (held d k' ∗ pos d k')) ∗ ow d (O + 0) ∗ (((zero d k ∗ pay m d k) ∗ (zero d k' ∗ pay m d k')) ∗ ow d O -∗ Kt ⟨⟩))
      ⊢ WP d (do
          Prog.lift (.waitDma2 s src dst hsrc hdst)
          Prog.lift (.waitDma2 s' src' dst' hsrc' hdst')) Kt := by
  unfold WP
  rw [wp_bind]
  iintro ⟨#HG, ⟨H1, H2⟩, HO, Hk⟩
  iapply (turn_one m K d O (fun _ => WP d (Prog.lift (.waitDma2 s' src' dst' hsrc' hdst')) Kt) k hs hN hO)
  isplitr; · iexact HG
  isplitl [H1]; · iexact H1
  isplitl [HO]; · iexact HO
  iintro ⟨H1, HO⟩
  iapply (turn_one m K d O Kt k' hs' hN' hO')
  isplitr; · iexact HG
  isplitl [H2]; · iexact H2
  isplitl [HO]; · rw [add_zero]; iexact HO
  iintro ⟨H2, HO⟩
  iapply Hk
  isplitr [HO]
  · isplitl [H1] <;> iassumption
  · iexact HO

end Cert.KernelIdeal.Own

end
-- ==== Proof.IRows.lean ====
module

public import proofs.«01_k».proof.Proof.ITurns

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kd

variable {F : FTy → Type} [FloatOps F]

local notation "𝕄" => MT nD τ sig Unit (Elt F) ℕ UU ℕ

/-! ## Rearranging -/

omit [FloatOps F] in
/-- The first two of three change places. -/
theorem sep_swap (P Q R : sProp 𝕄) : iprop(P ∗ Q ∗ R) = iprop(Q ∗ P ∗ R) := by rw [← sep_assoc_eq, sep_comm_eq P Q, sep_assoc_eq]
omit [FloatOps F] in
/-- The blocks of the device at place (0, 0), put in order of rows. -/
theorem perm_00 (P Q R S : sProp 𝕄) : iprop(P ∗ Q ∗ R ∗ S) = iprop(P ∗ R ∗ Q ∗ S) := by rw [sep_swap Q R]
omit [FloatOps F] in
/-- The blocks of the device at place (0, 1), put in order of rows. -/
theorem perm_01 (P Q R S : sProp 𝕄) : iprop(P ∗ Q ∗ R ∗ S) = iprop(Q ∗ S ∗ P ∗ R) := by rw [sep_swap P Q, sep_comm_eq R S, sep_swap P S]
omit [FloatOps F] in
/-- The blocks of the device at place (1, 0), put in order of rows. -/
theorem perm_10 (P Q R S : sProp 𝕄) : iprop(P ∗ Q ∗ R ∗ S) = iprop(R ∗ P ∗ S ∗ Q) := by rw [sep_swap Q R, sep_swap P R, sep_comm_eq Q S]
omit [FloatOps F] in
/-- The blocks of the device at place (1, 1), put in order of rows. -/
theorem perm_11 (P Q R S : sProp 𝕄) : iprop(P ∗ Q ∗ R ∗ S) = iprop(S ∗ Q ∗ R ∗ P) := by rw [sep_comm_eq R S, sep_swap Q S, sep_swap P S, sep_swap P Q, sep_comm_eq P R]

omit [FloatOps F] in
/-- The twelve chunks are the even and the odd ones. -/
theorem row_ev_od (Φ : Fin 12 → sProp 𝕄) : row Φ L12 = iprop(row (fun i => Φ (ev i)) L6 ∗ row (fun i => Φ (od i)) L6) := by
  rw [← row_map Φ ev, ← row_map Φ od, ← row_append, ← row_univ L12 (by decide) (by decide) Φ]
  exact row_univ _ (by decide) (by decide) Φ

omit [FloatOps F] in
/-- The four blocks are the device's own and its neighbours'. -/
theorem blocks (d : Dev nD) (Φ : ℕ → sProp 𝕄) :
    iprop(Φ 0 ∗ Φ 1824 ∗ Φ 3648 ∗ Φ 5472) = iprop(Φ (blk d) ∗ Φ (blk (pX d)) ∗ Φ (blk (pZ d)) ∗ Φ (blk (pZ (pX d)))) := by
  have hd : d.val < 8 := d.isLt
  have e : blk (pZ (pX d)) = 3648 * ((pX d).val / 4) + 1824 - 1824 * ((pX d).val % 2) := blk_pZ (pX d)
  rw [pX_val] at e
  rw [e, blk_pX, blk_pZ]
  unfold blk
  have h4 : d.val / 4 = 0 ∨ d.val / 4 = 1 := by omega
  have h2 : d.val % 2 = 0 ∨ d.val % 2 = 1 := by omega
  rcases h4 with h4 | h4 <;> rcases h2 with h2 | h2
  · rw [show 3648 * (d.val / 4) + 1824 * (d.val % 2) = 0 by omega, show 1824 * (d.val % 2) + 3648 - 3648 * (d.val / 4) = 3648 by omega,
      show 3648 * (d.val / 4) + 1824 - 1824 * (d.val % 2) = 1824 by omega,
      show 3648 * (((2 * ((d.val / 2) % 2) + d.val % 2 + 4) - 4 * (d.val / 4)) / 4) + 1824 - 1824 * (((2 * ((d.val / 2) % 2) + d.val % 2 + 4) - 4 * (d.val / 4)) % 2) = 5472 by omega]
    exact perm_00 _ _ _ _
  · rw [show 3648 * (d.val / 4) + 1824 * (d.val % 2) = 1824 by omega, show 1824 * (d.val % 2) + 3648 - 3648 * (d.val / 4) = 5472 by omega,
      show 3648 * (d.val / 4) + 1824 - 1824 * (d.val % 2) = 0 by omega,
      show 3648 * (((2 * ((d.val / 2) % 2) + d.val % 2 + 4) - 4 * (d.val / 4)) / 4) + 1824 - 1824 * (((2 * ((d.val / 2) % 2) + d.val % 2 + 4) - 4 * (d.val / 4)) % 2) = 3648 by omega]
    exact perm_01 _ _ _ _
  · rw [show 3648 * (d.val / 4) + 1824 * (d.val % 2) = 3648 by omega, show 1824 * (d.val % 2) + 3648 - 3648 * (d.val / 4) = 0 by omega,
      show 3648 * (d.val / 4) + 1824 - 1824 * (d.val % 2) = 5472 by omega,
      show 3648 * (((2 * ((d.val / 2) % 2) + d.val % 2 + 4) - 4 * (d.val / 4)) / 4) + 1824 - 1824 * (((2 * ((d.val / 2) % 2) + d.val % 2 + 4) - 4 * (d.val / 4)) % 2) = 1824 by omega]
    exact perm_10 _ _ _ _
  · rw [show 3648 * (d.val / 4) + 1824 * (d.val % 2) = 5472 by omega, show 1824 * (d.val % 2) + 3648 - 3648 * (d.val / 4) = 1824 by omega,
      show 3648 * (d.val / 4) + 1824 - 1824 * (d.val % 2) = 3648 by omega,
      show 3648 * (((2 * ((d.val / 2) % 2) + d.val % 2 + 4) - 4 * (d.val / 4)) / 4) + 1824 - 1824 * (((2 * ((d.val / 2) % 2) + d.val % 2 + 4) - 4 * (d.val / 4)) % 2) = 0 by omega]
    exact perm_11 _ _ _ _

/-! ## Rows by intervals -/

/-- An interval of rows of the result is two intervals that follow one another. -/
theorem oPt_cut (d : Dev nD) (q : PosShare TreeShare) (a n n' : ℕ) (f : OutC (F := F)) :
    (oPt d q a (n + n') f : sProp 𝕄) = iprop(oPt d q a n f ∗ oPt d q (a + n) n' f) := by
  unfold oPt
  have hs : oSet a (n + n') = oSet a n ∪ oSet (a + n) n' := by
    ext i; unfold oSet; simp only [Finset.mem_filter, Finset.mem_univ, true_and, Finset.mem_union]; omega
  have hd : Disjoint (oSet a n) (oSet (a + n) n') := by
    rw [Finset.disjoint_left]; intro i; unfold oSet; simp only [Finset.mem_filter, Finset.mem_univ, true_and]; omega
  rw [hs]
  have h := pointsTo_union (Ix := Unit) (Val := Elt F) (Name := ℕ) (U := UU) (Lvl := ℕ) (ℓ := oLoc d) (q := q) (f := (f : Buf (Elt F) (oLoc d))) hd
  exact equiv_iff.mp ⟨h.1, h.2⟩
/-- An interval of rows of the scratch copy is two intervals that follow one another. -/
theorem vPt_cut (d : Dev nD) (a n n' : ℕ) (f : ScrC (F := F)) :
    (vPt d a (n + n') f : sProp 𝕄) = iprop(vPt d a n f ∗ vPt d (a + n) n' f) := by
  unfold vPt
  have hs : vSet a (n + n') = vSet a n ∪ vSet (a + n) n' := by
    ext i; unfold vSet; simp only [Finset.mem_filter, Finset.mem_univ, true_and, Finset.mem_union]; omega
  have hd : Disjoint (vSet a n) (vSet (a + n) n') := by
    rw [Finset.disjoint_left]; intro i; unfold vSet; simp only [Finset.mem_filter, Finset.mem_univ, true_and]; omega
  rw [hs]
  have h := pointsTo_union (Ix := Unit) (Val := Elt F) (Name := ℕ) (U := UU) (Lvl := ℕ) (ℓ := vLoc d) (q := fullShare) (f := (f : Buf (Elt F) (vLoc d))) hd
  exact equiv_iff.mp ⟨h.1, h.2⟩

omit [FloatOps F] in
/-- An interval cut into equal chunks, for anything that cuts. -/
theorem cut_row (P : ℕ → ℕ → sProp 𝕄) (hP : ∀ a n n', P a (n + n') = iprop(P a n ∗ P (a + n) n')) (a w : ℕ) (k : ℕ) :
    P a (w * (k + 1)) = iprop(row (fun c : Fin k => P (a + w * c.val) w) (List.finRange k) ∗ P (a + w * k) w) := by
  induction k with
  | zero =>
    rw [show List.finRange 0 = [] from rfl]
    show P a (w * 1) = iprop(emp ∗ P (a + w * 0) w)
    rw [emp_sep_eq, Nat.mul_one, Nat.mul_zero, Nat.add_zero]
  | succ k ih =>
    rw [show w * (k + 1 + 1) = w * (k + 1) + w from rfl, hP, ih, List.finRange_succ_last, row_append, row_map]
    congr 1
    show _ = iprop(_ ∗ (P (a + w * k) w ∗ emp))
    rw [sep_comm_eq (P (a + w * k) w), emp_sep_eq]
    rfl

/-- A block is its twelve chunks. -/
theorem cut12 (P : ℕ → ℕ → sProp 𝕄) (hP : ∀ a n n', P a (n + n') = iprop(P a n ∗ P (a + n) n')) (a : ℕ) :
    P a 1824 = row (fun c : Fin 12 => P (a + 152 * c.val) 152) L12 := by
  have h := cut_row P hP a 152 11
  rw [show 152 * (11 + 1) = 1824 from rfl] at h
  rw [h, show L12 = (List.finRange 11).map Fin.castSucc ++ [Fin.last 11] by decide, row_append, row_map]
  show _ = iprop(_ ∗ (P (a + 152 * 11) 152 ∗ emp))
  rw [sep_comm_eq _ (iprop(emp)), emp_sep_eq]
  rfl
/-- The kept rows are their four chunks. -/
theorem cut4 (P : ℕ → ℕ → sProp 𝕄) (hP : ∀ a n n', P a (n + n') = iprop(P a n ∗ P (a + n) n')) (a : ℕ) :
    P a 896 = row (fun c : Fin 4 => P (a + 224 * c.val) 224) L4 := by
  have h := cut_row P hP a 224 3
  rw [show 224 * (3 + 1) = 896 from rfl] at h
  rw [h, show L4 = (List.finRange 3).map Fin.castSucc ++ [Fin.last 3] by decide, row_append, row_map]
  show _ = iprop(_ ∗ (P (a + 224 * 3) 224 ∗ emp))
  rw [sep_comm_eq _ (iprop(emp)), emp_sep_eq]
  rfl

/-- The result in its pieces: four blocks of twelve chunks and the four kept chunks. -/
theorem out_pieces (d : Dev nD) (f : OutC (F := F)) :
    (oLoc d ↦{fullShare} (f : Buf (Elt F) (oLoc d)) : sProp 𝕄)
      = iprop((row (fun c => oPt d fullShare (blk d + 152 * c.val) 152 f) L12 ∗ row (fun c => oPt d fullShare (blk (pX d) + 152 * c.val) 152 f) L12
          ∗ row (fun c => oPt d fullShare (blk (pZ d) + 152 * c.val) 152 f) L12 ∗ row (fun c => oPt d fullShare (blk (pZ (pX d)) + 152 * c.val) 152 f) L12)
        ∗ row (fun j => oPt d fullShare (7296 + 224 * j.val) 224 f) L4) := by
  have hc := oPt_cut (F := F) d fullShare
  have h0 : (oLoc d ↦{fullShare} (f : Buf (Elt F) (oLoc d)) : sProp 𝕄) = oPt d fullShare 0 8192 f := by
    have hu : (Finset.univ : Finset S8192x1024.Idx) = oSet 0 8192 := by
      ext i; unfold oSet
      have : (i 0).val < 8192 := (i 0).isLt
      simp only [Finset.mem_filter, Finset.mem_univ, true_and, true_iff]
      exact ⟨Nat.zero_le _, by omega⟩
    exact congrArg (fun S => (oLoc d ↦[S]{fullShare} (f : Buf (Elt F) (oLoc d)) : sProp 𝕄)) hu
  have b : ∀ a, oPt d fullShare a 1824 f = row (fun c : Fin 12 => oPt d fullShare (a + 152 * c.val) 152 f) L12 :=
    fun a => cut12 (fun a n => oPt d fullShare a n f) (fun a n n' => hc a n n' f) a
  rw [← b, ← b, ← b, ← b, ← cut4 (fun a n => oPt d fullShare a n f) (fun a n n' => hc a n n' f) 7296,
    ← blocks d (fun a => oPt d fullShare a 1824 f), h0, show (8192 : ℕ) = 1824 + (1824 + (1824 + (1824 + 896))) by decide, hc, hc, hc, hc]
  rw [sep_assoc_eq, sep_assoc_eq, sep_assoc_eq]

/-- The scratch copy in its pieces. -/
theorem scr_pieces (d : Dev nD) (f : ScrC (F := F)) :
    (vLoc d ↦{fullShare} (f : Buf (Elt F) (vLoc d)) : sProp 𝕄)
      = iprop(row (fun c : Fin 12 => vPt d (152 * c.val) 152 f) L12 ∗ row (fun j : Fin 4 => vPt d (1824 + 224 * j.val) 224 f) L4) := by
  have hc := vPt_cut (F := F) d
  have h0 : (vLoc d ↦{fullShare} (f : Buf (Elt F) (vLoc d)) : sProp 𝕄) = vPt d 0 2720 f := by
    have hu : (Finset.univ : Finset S2720x1024.Idx) = vSet 0 2720 := by
      ext i; unfold vSet
      have : (i 0).val < 2720 := (i 0).isLt
      simp only [Finset.mem_filter, Finset.mem_univ, true_and, true_iff]
      exact ⟨Nat.zero_le _, by omega⟩
    exact congrArg (fun S => (vLoc d ↦[S]{fullShare} (f : Buf (Elt F) (vLoc d)) : sProp 𝕄)) hu
  have b : vPt d 0 1824 f = row (fun c : Fin 12 => vPt d (152 * c.val) 152 f) L12 := by
    refine (cut12 (fun a n => vPt d a n f) (fun a n n' => hc a n n' f) 0).trans (row_congr _ fun c => ?_)
    rw [Nat.zero_add]
  rw [← b, ← cut4 (fun a n => vPt d a n f) (fun a n n' => hc a n n' f) 1824, h0, show (2720 : ℕ) = 1824 + 896 by decide, hc]

/-! ## The finished result -/

variable (m : (ℓ : Loc nD τ sig) → Buf (Elt F) ℓ)

/-- Whose block a row of the result is in, on the device's side of `y`. -/
def own (d : Dev nD) (b : ℕ) : Dev nD := ⟨4 * ((b / 2) % 2) + 2 * ((d.val / 2) % 2) + b % 2, by show _ < 8; omega⟩

/-- The finished result: a block's rows hold its owner's sums, the kept rows the device's own. -/
def Rc (d : Dev nD) : OutC (F := F) := fun i => if (i 0).val < 7296 then Sc m (own d ((i 0).val / 1824)) i else Sc m d i

/-- A row of a device's block is one that this device sums. -/
theorem own_row (d e : Dev nD) (r : ℕ) (he : col e = col d) (h1 : blk e ≤ r) (h2 : r < blk e + 1824) : r < 7296 ∧ own d (r / 1824) = e := by
  have h := e.isLt
  change e.val < 8 at h
  have hb := blk_le e
  refine ⟨by omega, Fin.ext ?_⟩
  unfold own
  unfold blk at h1 h2
  unfold col at he
  show 4 * ((r / 1824 / 2) % 2) + 2 * ((d.val / 2) % 2) + r / 1824 % 2 = e.val
  have h4 : e.val / 4 = 0 ∨ e.val / 4 = 1 := by omega
  have h2' : e.val % 2 = 0 ∨ e.val % 2 = 1 := by omega
  rcases h4 with h4 | h4 <;> rcases h2' with h2' | h2' <;> rw [h4, h2'] at h1 h2
  · rw [show r / 1824 = 0 by omega]; omega
  · rw [show r / 1824 = 1 by omega]; omega
  · rw [show r / 1824 = 2 by omega]; omega
  · rw [show r / 1824 = 3 by omega]; omega

/-- A chunk of a block with its owner's sums is a chunk of the finished result. -/
theorem sum_done (d e : Dev nD) (he : col e = col d) (c : Fin 12) :
    (sum m d fullShare e c : sProp 𝕄) = oPt d fullShare (blk e + 152 * c.val) 152 (Rc m d) := by
  unfold sum oPt
  refine pointsTo_congr fun i hi => ?_
  unfold oSet at hi
  rw [Finset.mem_filter] at hi
  have hc := c.isLt
  obtain ⟨h1, h2⟩ := own_row d e (i 0).val he (by omega) (by omega)
  unfold Rc
  rw [if_pos h1, h2]
/-- A kept chunk with the device's own sums is a chunk of the finished result. -/
theorem kept_done (d : Dev nD) (j : Fin 4) :
    (oPt d fullShare (7296 + 224 * j.val) 224 (Sc m d) : sProp 𝕄) = oPt d fullShare (7296 + 224 * j.val) 224 (Rc m d) := by
  unfold oPt
  refine pointsTo_congr fun i hi => ?_
  unfold oSet at hi
  rw [Finset.mem_filter] at hi
  unfold Rc
  rw [if_neg (by omega)]

end Cert.KernelIdeal.Own

end
-- ==== Proof.IBody.lean ====
module

public import proofs.«01_k».proof.Proof.IRows

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kd

variable {F : FTy → Type} [FloatOps F]

local notation "𝕄" => MT nD τ sig Unit (Elt F) ℕ UU ℕ

variable (m : (ℓ : Loc nD τ sig) → Buf (Elt F) ℓ) (K : Dev nD × Option Kd → ℕ)

omit [FloatOps F] in
/-- What every kind of semaphore has, loop by loop. -/
theorem over_kinds (Φ : Kd → sProp 𝕄) : bigSep Finset.univ Φ
    = iprop(row (fun c => Φ (sY c)) L12 ∗ row (fun c => Φ (rY c)) L12 ∗ row (fun j => Φ (sU j)) L4 ∗ row (fun j => Φ (rU j)) L4
        ∗ row (fun c => Φ (sX c)) L12 ∗ row (fun c => Φ (rX c)) L12 ∗ row (fun c => Φ (sZ c)) L12 ∗ row (fun c => Φ (rZ c)) L12
        ∗ row (fun i => Φ (sE i)) L6 ∗ row (fun i => Φ (rE i)) L6 ∗ row (fun i => Φ (sO i)) L6 ∗ row (fun i => Φ (rO i)) L6
        ∗ row (fun c => Φ (kC c)) L12 ∗ row (fun j => Φ (kU j)) L4) := by
  rw [row_univ kinds kinds_nodup mem_kinds Φ]
  unfold kinds
  simp only [row_append, row_map, sep_assoc_eq]

/-! ## The meeting -/

/-- Announcing to the neighbours hands them their rows; hearing them brings the device's. -/
theorem meet_rule (Kt : PUnit → sProp 𝕄) (d : Dev nD) (O : CellTallies nD τ sig Unit) (hO : Above 1 O) :
    iprop(recs m K ∗ (dutyTok ER (bar (pY d)) 0 0 ∗ barPay (pY d) 0) ∗ (dutyTok ER (bar (pX d)) 0 1 ∗ barPay (pX d) 1)
        ∗ (dutyTok ER (bar (pZ d)) 0 2 ∗ barPay (pZ d) 2) ∗ (cred (tallyAt (bar d) () 3) ∗ atPos ER (bar d) 0 ∅ 0)
        ∗ ow d (O + tallyAt (bar (pZ d)) () 1 + tallyAt (bar (pX d)) () 1 + tallyAt (bar (pY d)) () 1)
        ∗ ((barPay d 0 ∗ barPay d 1 ∗ barPay d 2) ∗ semVal (bar d) 0 ∗ ow d O -∗ Kt ⟨⟩))
      ⊢ WP d (meet d) Kt := by
  unfold meet ow
  simp only [semSignalWord, semWaitWord, Prog.lift, Prog.bind_op, Prog.bind_ret, Prog.pure_eq_ret]
  iintro ⟨#HG, ⟨HtY, HpY⟩, ⟨HtX, HpX⟩, ⟨HtZ, HpZ⟩, ⟨Hc, Hat⟩, ⟨%W, HO⟩, Hk⟩
  ihave H1 := (recs_at m K (pY d) none) $$ HG
  icases H1 with ⟨HiY, HrY⟩
  ihave H1 := (recs_at m K (pX d) none) $$ HG
  icases H1 with ⟨HiX, HrX⟩
  ihave H1 := (recs_at m K (pZ d) none) $$ HG
  icases H1 with ⟨HiZ, HrZ⟩
  ihave H1 := (recs_at m K d none) $$ HG
  icases H1 with ⟨#Hi, -⟩
  iapply (Rounds.wp_signal 𝒱₀ ER (sched m) (d : Thread nD τ) none (dst := (pY d : Thread nD τ)) (κ := K (pY d, none))
      (d := 0) (by rw [show (((pY d : Thread nD τ), SemLoc.reg barS) : GSem nD τ sig) = bar (pY d) from rfl, duties_bar]; exact Finset.mem_univ _)
      ((amount_bar m (pY d) 0).trans (by decide)) () (O + tallyAt (bar (pZ d)) () 1 + tallyAt (bar (pX d)) () 1) rfl) $$ [HiY HO HtY HpY HrY]
  · isplitl [HiY]; · iexact HiY
    isplitl [HO]; · iexact HO
    isplitl [HtY]; · iexact HtY
    isplitl [HpY]
    · rw [show (sched (F := F) m).payload ((pY d : Thread nD τ), SemLoc.reg barS) 0 0 = barPay (pY d) 0 from rfl]; iexact HpY
    iexact HrY
  iintro HO
  iapply (Rounds.wp_signal 𝒱₀ ER (sched m) (d : Thread nD τ) none (dst := (pX d : Thread nD τ)) (κ := K (pX d, none))
      (d := 1) (by rw [show (((pX d : Thread nD τ), SemLoc.reg barS) : GSem nD τ sig) = bar (pX d) from rfl, duties_bar]; exact Finset.mem_univ _)
      ((amount_bar m (pX d) 1).trans (by decide)) () (O + tallyAt (bar (pZ d)) () 1) rfl) $$ [HiX HO HtX HpX HrX]
  · isplitl [HiX]; · iexact HiX
    isplitl [HO]; · iexact HO
    isplitl [HtX]; · iexact HtX
    isplitl [HpX]
    · rw [show (sched (F := F) m).payload ((pX d : Thread nD τ), SemLoc.reg barS) 0 1 = barPay (pX d) 1 from rfl]; iexact HpX
    iexact HrX
  iintro HO
  iapply (Rounds.wp_signal 𝒱₀ ER (sched m) (d : Thread nD τ) none (dst := (pZ d : Thread nD τ)) (κ := K (pZ d, none))
      (d := 2) (by rw [show (((pZ d : Thread nD τ), SemLoc.reg barS) : GSem nD τ sig) = bar (pZ d) from rfl, duties_bar]; exact Finset.mem_univ _)
      ((amount_bar m (pZ d) 2).trans (by decide)) () O rfl) $$ [HiZ HO HtZ HpZ HrZ]
  · isplitl [HiZ]; · iexact HiZ
    isplitl [HO]; · iexact HO
    isplitl [HtZ]; · iexact HtZ
    isplitl [HpZ]
    · rw [show (sched (F := F) m).payload ((pZ d : Thread nD τ), SemLoc.reg barS) 0 2 = barPay (pZ d) 2 from rfl]; iexact HpZ
    iexact HrZ
  iintro HO
  iapply (Rounds.wp_wait_rest_token 𝒱₀ ER (sched m) (d : Thread nD τ) none (κ := K (d, none))
      (wpE_semWait_eq 𝒱₀ (d : Thread nD τ) none Set.univ) (Set.mem_univ _) () (O := O) (W := W) (R := 0) (m := 0) (T := ∅)
      (by rw [show (((d : Thread nD τ), SemLoc.reg barS) : GSem nD τ sig) = bar d from rfl, expect_bar]; decide)) $$ [Hc HO Hat]
  · isplitr; · iexact Hi
    isplitl [Hc]; · iexact Hc
    isplitl [HO]; · iexact HO
    isplitr
    · iapply (mayWait d (.reg barS) 1 O (le_of_eq (lv_bar d ())) hO)
      iapply (recs_lev m K); iexact HG
    iexact Hat
  iintro ⟨HO, Hat, -, Hpay⟩
  ihave Hp := (Entails.of_eq (show bigSep ((sched (F := F) m).duties ((d : Thread nD τ), SemLoc.reg barS) 0 \ ∅) (fun j => (sched (F := F) m).payload ((d : Thread nD τ), SemLoc.reg barS) 0 j) = _ from rest_bar m d)) $$ Hpay
  imod (Rounds.cell_close ER (sched m) (Set.mem_univ (K (d, none))) (fun h => h) (R := 0 + 1) (duties_later m (bar d))) $$ [Hat] with Hz
  · isplitr; · iexact Hi
    iexact Hat
  iapply (done d Kt)
  iapply Hk
  isplitl [Hp]; · iexact Hp
  isplitl [Hz]; · iexact Hz
  iexists _; iexact HO

/-! ## The whole body -/

/-- What a device owes its neighbours at the start. -/
def owedAll (d : Dev nD) : CellTallies nD τ sig Unit :=
  ((((0 + tl (tP d) L6) + tl (tS d) L12) + tl (tU d) L4) + tl (tC d) L12)
    + tallyAt (bar (pZ d)) () 1 + tallyAt (bar (pX d)) () 1 + tallyAt (bar (pY d)) () 1

/-- What the body takes: its buffers, its cells' positions, the rights to pay and to wait. -/
def bodyIn (d : Dev nD) : sProp 𝕄 :=
  iprop((∃ f : OutC (F := F), oLoc d ↦{fullShare} (f : Buf (Elt F) (oLoc d))) ∗ (∃ f : ScrC (F := F), vLoc d ↦{fullShare} (f : Buf (Elt F) (vLoc d))) ∗ xs m d
    ∗ (bigSep Finset.univ fun k => pos d k) ∗ (bigSep Finset.univ fun k => tok (tgt d k) k)
    ∗ (bigSep Finset.univ fun k => if isR k = true then held d k else iprop(emp))
    ∗ (cred (tallyAt (bar d) () 3) ∗ atPos ER (bar d) 0 ∅ 0)
    ∗ (dutyTok ER (bar (pY d)) 0 0 ∗ dutyTok ER (bar (pX d)) 0 1 ∗ dutyTok ER (bar (pZ d)) 0 2))
/-- What the body leaves: the finished result, the scratch copy, every counter at zero. -/
def bodyOut (d : Dev nD) : sProp 𝕄 :=
  iprop((oLoc d ↦{fullShare} (Rc m d : Buf (Elt F) (oLoc d))) ∗ (vLoc d ↦{fullShare} (Wc m d : Buf (Elt F) (vLoc d))) ∗ xs m d
    ∗ (bigSep Finset.univ fun k => zero d k) ∗ semVal (bar d) 0)

/-- The rights to wait, kind by kind: only what comes from elsewhere. -/
theorem held_kinds (d : Dev nD) : (bigSep Finset.univ fun k => if isR k = true then held d k else iprop(emp) : sProp 𝕄)
    ⊢ iprop(row (fun c => held d (rY c)) L12 ∗ row (fun j => held d (rU j)) L4 ∗ row (fun c => held d (rX c)) L12 ∗ row (fun c => held d (rZ c)) L12
        ∗ row (fun i => held d (rE i)) L6 ∗ row (fun i => held d (rO i)) L6) := by
  rw [over_kinds]
  iintro ⟨-, H1, -, H2, -, H3, -, H4, -, H5, -, H6, -⟩
  isplitl [H1]; · iexact H1
  isplitl [H2]; · iexact H2
  isplitl [H3]; · iexact H3
  isplitl [H4]; · iexact H4
  isplitl [H5]; · iexact H5
  iexact H6

/-- The scratch copy at any contents, in pieces at any contents. -/
theorem scr_any (d : Dev nD) : (iprop(∃ f : ScrC (F := F), vLoc d ↦{fullShare} (f : Buf (Elt F) (vLoc d))) : sProp 𝕄)
    ⊢ iprop(row (fun c : Fin 12 => anyV (F := F) d (152 * c.val) 152) L12 ∗ row (fun j : Fin 4 => anyV (F := F) d (1824 + 224 * j.val) 224) L4) := by
  iintro ⟨%f, H⟩
  ihave H := (Entails.of_eq (scr_pieces d f)) $$ H
  icases H with ⟨H1, H2⟩
  isplitl [H1]
  · iapply (row_mono L12 (Φ := fun c : Fin 12 => vPt d (152 * c.val) 152 f) fun c => by unfold anyV; iintro H; iexists f; iexact H); iexact H1
  · iapply (row_mono L4 (Φ := fun j : Fin 4 => vPt d (1824 + 224 * j.val) 224 f) fun c => by unfold anyV; iintro H; iexists f; iexact H); iexact H2

/-- The chunks of a block at some contents, each of them at some contents. -/
theorem chunks_any (d e : Dev nD) (f : OutC (F := F)) :
    (row (fun c => oPt d fullShare (blk e + 152 * c.val) 152 f) L12 : sProp 𝕄) ⊢ row (anyC (F := F) d e) L12 :=
  row_mono L12 fun c => by unfold anyC; iintro H; iexists f; iexact H

/-- The result at any contents, as what the three announcements hand over and the chunks passed on by no one. -/
theorem out_any (d : Dev nD) : (iprop(∃ f : OutC (F := F), oLoc d ↦{fullShare} (f : Buf (Elt F) (oLoc d))) : sProp 𝕄)
    ⊢ iprop(barPay (pY d) 0 ∗ barPay (pX d) 1 ∗ barPay (pZ d) 2) := by
  unfold barPay
  simp only
  rw [pY_pY, pX_pX, pZ_pZ, pX_pZ, show anyC (F := F) d (pY d) = anyC d d from funext fun c => by unfold anyC; rw [blk_pY]]
  iintro ⟨%f, H⟩
  ihave H := (Entails.of_eq (out_pieces d f)) $$ H
  icases H with ⟨⟨H1, H2, H3, H4⟩, H5⟩
  ihave H1 := (chunks_any d d f) $$ H1
  ihave H2 := (chunks_any d (pX d) f) $$ H2
  ihave H3 := (chunks_any d (pZ d) f) $$ H3
  ihave H4 := (chunks_any d (pZ (pX d)) f) $$ H4
  ihave H4 := (Entails.of_eq (row_ev_od (anyC d (pZ (pX d))))) $$ H4
  icases H4 with ⟨H4, H4'⟩
  isplitl [H1 H5]
  · isplitl [H1]; · iexact H1
    iapply (row_mono L4 (Φ := fun j : Fin 4 => oPt d fullShare (7296 + 224 * j.val) 224 f) fun c => by unfold anyU; iintro H; iexists f; iexact H); iexact H5
  isplitl [H2 H4]
  · isplitl [H2] <;> iassumption
  isplitl [H3] <;> iassumption

/-- The text of the kernel at its buffers and semaphores. -/
abbrev theText : Prog (TpuEff nD τ sig (Elt F) Λ₀ .tc) PUnit :=
  text xB oB vB cc0_scratch1 cc0_scratch2 cc0_scratch3 cc0_scratch4 cc0_scratch5 cc0_scratch6 cc0_scratch7 cc0_scratch8 cc0_scratch9 cc0_scratch10 cc0_scratch11 cc0_scratch12 cc0_scratch13

/-- A right to wait with the cell's position; a cell done with what its copy handed over. -/
abbrev ready (d : Dev nD) (k : Kd) : sProp 𝕄 := iprop(held d k ∗ pos d k)
/-- A cell done with: its counter at zero, and what its copy handed over. -/
abbrev over (d : Dev nD) (k : Kd) : sProp 𝕄 := iprop(zero d k ∗ pay m d k)

/-- A loop that only waits. -/
theorem wait_loop {ι : Type} (Kt : PUnit → sProp 𝕄) (d : Dev nD) (f : ι → Prog (TpuEff nD τ sig (Elt F) Λ₀ .tc) PUnit) (Pre Post : ι → sProp 𝕄)
    (n : ℕ) (O : CellTallies nD τ sig Unit) (hO : Above n O)
    (step : ∀ i O (Kt : PUnit → sProp 𝕄), Above n O → iprop(recs m K ∗ Pre i ∗ ow d (O + 0) ∗ (Post i ∗ ow d O -∗ Kt ⟨⟩)) ⊢ WP d (f i) Kt) (l : List ι) :
    iprop(recs m K ∗ row Pre l ∗ ow d O ∗ (row Post l ∗ ow d O -∗ Kt ⟨⟩)) ⊢ WP d (loop f l) Kt := by
  have h := loop_rule m K d f Pre Post (fun _ => 0) n (fun _ => .zero n) step l O Kt hO
  rw [tl_zero, add_zero] at h
  exact h

/-- Nothing owed is above every level. -/
theorem above0 (n : ℕ) : Above n (0 : CellTallies nD τ sig Unit) := .zero n
/-- What is owed before the chunks are passed on is above level 3. -/
theorem aboveP (d : Dev nD) : Above 3 (0 + tl (tP d) L6) :=
  (above0 3).add (tl_above (fun i => .add (.cell _ _ _ (by show 3 < 4; omega)) (.cell _ _ _ (by show 3 < 4; omega))) _)
/-- What adding one chunk pays is above level 2. -/
theorem aboveS1 (d : Dev nD) (c : Fin 12) : Above 2 (tS d c) := .add (.cell _ _ _ (by show 2 < 3; omega)) (.cell _ _ _ (by show 2 < 3; omega))
/-- What is owed before the chunks are added is above level 2. -/
theorem aboveS (d : Dev nD) : Above 2 ((0 + tl (tP d) L6) + tl (tS d) L12) := ((aboveP d).mono (by omega)).add (tl_above (aboveS1 d) _)
/-- What starting one kept chunk pays is above level 1. -/
theorem aboveU1 (d : Dev nD) (j : Fin 4) : Above 1 (tU d j) := .cell _ _ _ (by show 1 < 2; omega)
/-- What is owed before the kept chunks are started is above level 1. -/
theorem aboveU (d : Dev nD) : Above 1 (((0 + tl (tP d) L6) + tl (tS d) L12) + tl (tU d) L4) := ((aboveS d).mono (by omega)).add (tl_above (aboveU1 d) _)
/-- What starting one chunk pays is above level 1. -/
theorem aboveC1 (d : Dev nD) (c : Fin 12) : Above 1 (tC d c) := .cell _ _ _ (by show 1 < 2; omega)
/-- What is owed before the chunks are started is above level 1. -/
theorem aboveC (d : Dev nD) : Above 1 ((((0 + tl (tP d) L6) + tl (tS d) L12) + tl (tU d) L4) + tl (tC d) L12) := (aboveU d).add (tl_above (aboveC1 d) _)

/-- The chunks of a block with its owner's sums, even and odd, are the block of the finished result. -/
theorem block_done (d e : Dev nD) (he : col e = col d) :
    iprop(row (fun i => sum m d fullShare e (ev i)) L6 ∗ row (fun i => sum m d fullShare e (od i)) L6)
      ⊢ (row (fun c => oPt d fullShare (blk e + 152 * c.val) 152 (Rc m d)) L12 : sProp 𝕄) := by
  rw [← row_congr L12 fun c => sum_done m d e he c]
  exact Entails.of_eq (row_ev_od (sum m d fullShare e)).symm

set_option maxHeartbeats 1600000 in
/-- The body takes what it takes and leaves what it leaves. -/
theorem body_rule (Kt : PUnit → sProp 𝕄) (d : Dev nD) :
    iprop(recs m K ∗ bodyIn m d ∗ ow d (owedAll d) ∗ (bodyOut m d ∗ ow d 0 -∗ Kt ⟨⟩)) ⊢ WP d theText Kt := by
  unfold theText text bodyIn owedAll
  simp only [Prog.lift, Prog.bind_op, Prog.bind_ret, wp_deviceId]
  rw [over_kinds (F := F) (fun k => pos d k), over_kinds (F := F) (fun k => tok (tgt d k) k)]
  iintro ⟨#HG, ⟨Ho, Hv, Hx, ⟨PsY, PrY, PsU, PrU, PsX, PrX, PsZ, PrZ, PsE, PrE, PsO, PrO, PkC, PkU⟩,
    ⟨TsY, TrY, TsU, TrU, TsX, TrX, TsZ, TrZ, TsE, TrE, TsO, TrO, TkC, TkU⟩, Hh, Hbar, ⟨HtY, HtX, HtZ⟩⟩, HO, Hk⟩
  ihave Hh := (held_kinds d) $$ Hh
  icases Hh with ⟨CrY, CrU, CrX, CrZ, CrE, CrO⟩
  ihave Ho := (out_any d) $$ Ho
  icases Ho with ⟨HoY, HoX, HoZ⟩
  ihave Hv := (scr_any d) $$ Hv
  icases Hv with ⟨HvC, HvU⟩
  ihave Hx := (row_copies (xs_twice m d) L12) $$ Hx
  icases Hx with ⟨Hx, Hx1⟩
  ihave Hx := (row_copies (xs_twice m d) L12) $$ Hx
  icases Hx with ⟨Hx, Hx2⟩
  ihave Hx := (row_copies (xs_twice m d) L4) $$ Hx
  icases Hx with ⟨Hx, Hx3⟩
  ihave Hx := (row_copies (xs_twice m d) L4) $$ Hx
  icases Hx with ⟨Hx, Hx4⟩
  -- meet
  rw [wp_bind]
  iapply (meet_rule m K _ d _ (aboveC d))
  isplitr; · iexact HG
  isplitl [HtY HoY]; · isplitl [HtY] <;> iassumption
  isplitl [HtX HoX]; · isplitl [HtX] <;> iassumption
  isplitl [HtZ HoZ]; · isplitl [HtZ] <;> iassumption
  isplitl [Hbar]; · iexact Hbar
  isplitl [HO]; · iexact HO
  iintro ⟨⟨HpY, HpX, HpZ⟩, Hzbar, HO⟩
  unfold barPay
  icases HpY with ⟨QC, QU⟩
  icases HpX with ⟨QX, QE⟩
  icases HpZ with ⟨QZ, QO⟩
  -- the copies started
  rw [wp_bind]
  iapply (loop_rule m K d _ (preC m d) (postC d) (tC d) 1 (aboveC1 d) (fun i O Kt _ => turn_startC m K d O Kt i) L12 _ _ (aboveU d))
  isplitr; · iexact HG
  isplitl [Hx1 Hx2 QC HvC TsY TrY TkC]
  · unfold preC
    simp only [row_sep]
    isplitl [Hx1]; · iexact Hx1
    isplitl [Hx2]; · iexact Hx2
    isplitl [QC]; · iexact QC
    isplitl [HvC]; · iexact HvC
    isplitl [TsY]; · iexact TsY
    isplitl [TrY]; · iexact TrY
    iexact TkC
  isplitl [HO]; · iexact HO
  iintro ⟨Hp, HO⟩
  unfold postC
  simp only [row_sep]
  icases Hp with ⟨CsY, CkC⟩
  rw [wp_bind]
  iapply (loop_rule m K d _ (preU m d) (postU d) (tU d) 1 (aboveU1 d) (fun i O Kt _ => turn_startU m K d O Kt i) L4 _ _ ((aboveS d).mono (by omega)))
  isplitr; · iexact HG
  isplitl [Hx3 Hx4 QU HvU TsU TrU TkU]
  · unfold preU
    simp only [row_sep]
    isplitl [Hx3]; · iexact Hx3
    isplitl [Hx4]; · iexact Hx4
    isplitl [QU]; · iexact QU
    isplitl [HvU]; · iexact HvU
    isplitl [TsU]; · iexact TsU
    isplitl [TrU]; · iexact TrU
    iexact TkU
  isplitl [HO]; · iexact HO
  iintro ⟨Hp, HO⟩
  unfold postU
  simp only [row_sep]
  icases Hp with ⟨CsU, CkU⟩
  -- the blocks added and handed on
  rw [wp_bind]
  iapply (loop_rule m K d _ (preS d) (postS m d) (tS d) 2 (aboveS1 d) (fun i O Kt h => turn_sumC m K d O Kt i h) L12 _ _ ((aboveP d).mono (by omega)))
  isplitr; · iexact HG
  isplitl [CrY PrY CkC PkC TsX TrX QX TsZ TrZ QZ]
  · unfold preS
    simp only [row_sep]
    isplitl [CrY PrY]; · isplitl [CrY] <;> iassumption
    isplitl [CkC PkC]; · isplitl [CkC] <;> iassumption
    isplitl [TsX TrX QX]
    · isplitl [TsX]; · iexact TsX
      isplitl [TrX]; · iexact TrX
      iexact QX
    · isplitl [TsZ]; · iexact TsZ
      isplitl [TrZ]; · iexact TrZ
      iexact QZ
  isplitl [HO]; · iexact HO
  iintro ⟨Hp, HO⟩
  unfold postS
  simp only [row_sep]
  icases Hp with ⟨⟨CsX, CsZ⟩, ⟨ZrY, ZkC⟩, VC⟩
  -- the even chunks of what waits for `x` and `z`, and the odd ones
  ihave CrX := (Entails.of_eq (row_ev_od fun c => held d (rX c))) $$ CrX
  icases CrX with ⟨CrXe, CrXo⟩
  ihave CrZ := (Entails.of_eq (row_ev_od fun c => held d (rZ c))) $$ CrZ
  icases CrZ with ⟨CrZe, CrZo⟩
  ihave PrX := (Entails.of_eq (row_ev_od fun c => pos d (rX c))) $$ PrX
  icases PrX with ⟨PrXe, PrXo⟩
  ihave PrZ := (Entails.of_eq (row_ev_od fun c => pos d (rZ c))) $$ PrZ
  icases PrZ with ⟨PrZe, PrZo⟩
  rw [wp_bind]
  iapply (loop_rule m K d _ (preP d) (postP d) (tP d) 3 (fun i => .add (.cell _ _ _ (by show 3 < 4; omega)) (.cell _ _ _ (by show 3 < 4; omega)))
    (fun i O Kt h => turn_passOn m K d O Kt i h) L6 _ _ (above0 3))
  isplitr; · iexact HG
  isplitl [CrZe PrZe TsE TrE QE CrXo PrXo TsO TrO QO]
  · unfold preP
    simp only [row_sep]
    isplitl [CrZe PrZe]; · isplitl [CrZe] <;> iassumption
    isplitl [TsE TrE QE]
    · isplitl [TsE]; · iexact TsE
      isplitl [TrE]; · iexact TrE
      iexact QE
    isplitl [CrXo PrXo]; · isplitl [CrXo] <;> iassumption
    isplitl [TsO]; · iexact TsO
    isplitl [TrO]; · iexact TrO
    iexact QO
  isplitl [HO]; · iexact HO
  iintro ⟨Hp, HO⟩
  unfold postP
  simp only [row_sep]
  icases Hp with ⟨⟨CsE, CsO⟩, ZrZe, ZrXo⟩
  -- the kept rows added
  rw [wp_bind]
  iapply (wait_loop m K _ d _ (preV d) (postV m d) 2 0 (above0 2) (fun j O Kt h => turn_sumU m K d O Kt j h) L4)
  isplitr; · iexact HG
  isplitl [CrU PrU CkU PkU]
  · unfold preV
    simp only [row_sep]
    isplitl [CrU PrU]; · isplitl [CrU] <;> iassumption
    isplitl [CkU] <;> iassumption
  isplitl [HO]; · iexact HO
  iintro ⟨Hp, HO⟩
  unfold postV
  simp only [row_sep]
  icases Hp with ⟨⟨ZrU, ZkU⟩, OU, VU⟩
  -- the rest heard
  rw [wp_bind]
  iapply (wait_loop m K _ d _ (fun i => iprop(ready d (rX (ev i)) ∗ ready d (rZ (od i)))) (fun i => iprop(over m d (rX (ev i)) ∗ over m d (rZ (od i)))) 3 0 (above0 3)
    (fun i O Kt h => turn_two m K d O Kt (rX (ev i)) (rZ (od i)) (sem_rX (ev i)) (cr_oC d (ev i)) h (sem_rZ (od i)) (cr_oC d (od i)) h) L6)
  isplitr; · iexact HG
  isplitl [CrXe PrXe CrZo PrZo]
  · simp only [row_sep]
    isplitl [CrXe PrXe]; · isplitl [CrXe] <;> iassumption
    isplitl [CrZo] <;> iassumption
  isplitl [HO]; · iexact HO
  iintro ⟨Hp, HO⟩
  simp only [row_sep]
  icases Hp with ⟨⟨ZrXe, OXe⟩, ZrZo, OZo⟩
  rw [wp_bind]
  iapply (wait_loop m K _ d _ (fun i => iprop(ready d (rE i) ∗ ready d (rO i))) (fun i => iprop(over m d (rE i) ∗ over m d (rO i))) 4 0 (above0 4)
    (fun i O Kt h => turn_two m K d O Kt (rE i) (rO i) (sem_rE i) (cr_oE d i) h (sem_rO i) (cr_oO d i) h) L6)
  isplitr; · iexact HG
  isplitl [CrE PrE CrO PrO]
  · simp only [row_sep]
    isplitl [CrE PrE]; · isplitl [CrE] <;> iassumption
    isplitl [CrO] <;> iassumption
  isplitl [HO]; · iexact HO
  iintro ⟨Hp, HO⟩
  simp only [row_sep]
  icases Hp with ⟨⟨ZrE, OE⟩, ZrO, OO⟩
  -- everything has left
  rw [wp_bind]
  iapply (wait_loop m K _ d _ (fun c => ready d (sY c)) (fun c => over m d (sY c)) 0 0 (above0 0)
    (fun c O Kt h => turn_one m K d O Kt (sY c) (sem_sY c) (cr_xP d c) h) L12)
  isplitr; · iexact HG
  isplitl [CsY PsY]
  · simp only [row_sep]
    isplitl [CsY] <;> iassumption
  isplitl [HO]; · iexact HO
  iintro ⟨Hp, HO⟩
  simp only [row_sep]
  icases Hp with ⟨ZsY, -⟩
  rw [wp_bind]
  iapply (wait_loop m K _ d _ (fun j => ready d (sU j)) (fun j => over m d (sU j)) 0 0 (above0 0)
    (fun j O Kt h => turn_one m K d O Kt (sU j) (sem_sU j) (cr_xUP d j) h) L4)
  isplitr; · iexact HG
  isplitl [CsU PsU]
  · simp only [row_sep]
    isplitl [CsU] <;> iassumption
  isplitl [HO]; · iexact HO
  iintro ⟨Hp, HO⟩
  simp only [row_sep]
  icases Hp with ⟨ZsU, -⟩
  rw [wp_bind]
  iapply (wait_loop m K _ d _ (fun c => ready d (sX c)) (fun c => over m d (sX c)) 0 0 (above0 0)
    (fun c O Kt h => turn_one m K d O Kt (sX c) (sem_sX c) (cr_oC d c) h) L12)
  isplitr; · iexact HG
  isplitl [CsX PsX]
  · simp only [row_sep]
    isplitl [CsX] <;> iassumption
  isplitl [HO]; · iexact HO
  iintro ⟨Hp, HO⟩
  simp only [row_sep]
  icases Hp with ⟨ZsX, OsX⟩
  rw [wp_bind]
  iapply (wait_loop m K _ d _ (fun c => ready d (sZ c)) (fun c => over m d (sZ c)) 0 0 (above0 0)
    (fun c O Kt h => turn_one m K d O Kt (sZ c) (sem_sZ c) (cr_oC d c) h) L12)
  isplitr; · iexact HG
  isplitl [CsZ PsZ]
  · simp only [row_sep]
    isplitl [CsZ] <;> iassumption
  isplitl [HO]; · iexact HO
  iintro ⟨Hp, HO⟩
  simp only [row_sep]
  icases Hp with ⟨ZsZ, OsZ⟩
  iapply (wait_loop m K _ d _ (fun i => iprop(ready d (sE i) ∗ ready d (sO i))) (fun i => iprop(over m d (sE i) ∗ over m d (sO i))) 0 0 (above0 0)
    (fun i O Kt h => turn_two m K d O Kt (sE i) (sO i) (sem_sE i) (cr_oE d i) h (sem_sO i) (cr_oO d i) h) L6)
  isplitr; · iexact HG
  isplitl [CsE PsE CsO PsO]
  · simp only [row_sep]
    isplitl [CsE PsE]; · isplitl [CsE] <;> iassumption
    isplitl [CsO] <;> iassumption
  isplitl [HO]; · iexact HO
  iintro ⟨Hp, HO⟩
  simp only [row_sep]
  icases Hp with ⟨⟨ZsE, OsE⟩, ZsO, OsO⟩
  iapply Hk
  isplitr [HO]
  · unfold bodyOut
    rw [out_pieces, scr_pieces, over_kinds (F := F) (fun k => zero d k), row_ev_od (fun c => zero d (rX c)), row_ev_od (fun c => zero d (rZ c))]
    isplitl [OsX OsZ OXe OsO OsE OZo OE OO OU]
    · isplitr [OU]
      · isplitl [OsX OsZ]
        · rw [← row_congr L12 fun c => sum_done m d d rfl c]
          iapply (row_mono L12 fun c => halves_join d (blk d + 152 * c.val) 152 (Sc m d))
          rw [row_sep]
          isplitl [OsX]; · iexact OsX
          iexact OsZ
        isplitl [OXe OsO]
        · iapply (block_done m d (pX d) (col_pX d))
          isplitl [OXe]; · iexact OXe
          iexact OsO
        isplitl [OsE OZo]
        · iapply (block_done m d (pZ d) (col_pZ d))
          isplitl [OsE]; · iexact OsE
          iexact OZo
        · iapply (block_done m d (pZ (pX d)) ((col_pZ _).trans (col_pX d)))
          isplitl [OE]; · iexact OE
          iexact OO
      · rw [← row_congr L4 fun j => kept_done m d j]; iexact OU
    isplitl [VC VU]; · isplitl [VC] <;> iassumption
    isplitl [Hx]; · iexact Hx
    isplitr [Hzbar]
    · isplitl [ZsY]; · iexact ZsY
      isplitl [ZrY]; · iexact ZrY
      isplitl [ZsU]; · iexact ZsU
      isplitl [ZrU]; · iexact ZrU
      isplitl [ZsX]; · iexact ZsX
      isplitl [ZrXe ZrXo]; · isplitl [ZrXe] <;> iassumption
      isplitl [ZsZ]; · iexact ZsZ
      isplitl [ZrZe ZrZo]; · isplitl [ZrZe] <;> iassumption
      isplitl [ZsE]; · iexact ZsE
      isplitl [ZrE]; · iexact ZrE
      isplitl [ZsO]; · iexact ZsO
      isplitl [ZrO]; · iexact ZrO
      isplitl [ZkC]; · iexact ZkC
      iexact ZkU
    · iexact Hzbar
  · iexact HO

end Cert.KernelIdeal.Own

end
-- ==== Proof.ISame.lean ====
module

public import proofs.«01_k».proof.Proof.IText

@[expose] public section

noncomputable section

namespace Cert.KernelIdeal.Own

open Idealize.ShloMosaic Idealize.ShloMosaic.TcCoe
open Idealize.SL Idealize.SL.Sem
open Cert.KernelIdeal.Gen

variable {F : FTy → Type} [FloatOps F]

variable (arg0 : Memref sig .tc .hbm S1x8192x2048 .f32) (arg1 : Memref sig .tc .vmem S8192x1024 .f32) (arg2 : Memref sig .tc .vmem S2720x1024 .f32)
  (arg3 arg4 : DmaSems sig S12) (arg5 arg6 : DmaSems sig S4) (arg7 arg8 arg9 arg10 : DmaSems sig S12)
  (arg11 arg12 arg13 arg14 : DmaSems sig S6) (arg15 : DmaSems sig S16)

set_option maxRecDepth 200000 in
set_option maxHeartbeats 0 in
/-- The printed body is that program. -/
theorem body_eq_text (h0 : arg0.IsWhole) (h1 : arg1.IsWhole) (h2 : arg2.IsWhole) :
    cc0_body_skel (F := F) arg0 h0 arg1 h1 arg2 h2 arg3 arg4 arg5 arg6 arg7 arg8 arg9 arg10 arg11 arg12 arg13 arg14 arg15
      = text arg0 arg1 arg2 arg3 arg4 arg5 arg6 arg7 arg8 arg9 arg10 arg11 arg12 arg13 arg14 arg15 := by
  rfl

end Cert.KernelIdeal.Own

end
-- ==== Proof.ILaunch.lean ====
module

public import proofs.«01_k».proof.Proof.IBody
public import proofs.«01_k».proof.Proof.ISame
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Kd

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## What a device starts from and what the pipeline is told -/

/-- What stays with device `d` at the launch: its cells' positions and the rights to pay its neighbours'. -/
def linear (d : Dev nD) : sProp 𝕄 :=
  iprop((bigSep Finset.univ fun k => pos d k) ∗ atPos ER (bar d) 0 ∅ 0 ∗ (bigSep Finset.univ fun k => tok (tgt d k) k)
    ∗ (dutyTok ER (bar (pY d)) 0 0 ∗ dutyTok ER (bar (pX d)) 0 1 ∗ dutyTok ER (bar (pZ d)) 0 2))

/-- The invariants of all cells, under the names they were given, and that every cell is at its round. -/
def records (K : Dev nD × Option Kd → ℕ) : sProp 𝕄 :=
  iprop((bigSep Finset.univ fun p : Dev nD × Option Kd => cellInv ER (sched m) (K p) (gcell p.1 p.2))
    ∗ bigSep Finset.univ fun p : Dev nD × Option Kd => reached ER (gcell p.1 p.2) 0)
/-- The invariants can be used again and again. -/
instance records_persistent (K : Dev nD × Option Kd → ℕ) : BI.Persistent (records m K : sProp 𝕄) := by unfold records; infer_instance

/-- What the launch gives device `d` of the cells. -/
def given (d : Dev nD) : sProp 𝕄 := iprop(∃ K, records m K ∗ linear d)

/-- The rights to wait given at the launch: three announcements and every copy from elsewhere. -/
def waitsFor (d : Dev nD) : sProp 𝕄 :=
  iprop(cred (tallyAt (bar d) () 3) ∗ bigSep Finset.univ fun k => if isR k = true then held d k else iprop(emp))

/-- What a device starts from, its scratch copy apart. -/
def start (d : Dev nD) : sProp 𝕄 := iprop(given m d ∗ waitsFor d ∗ levAts L lv ∗ xs m d)
/-- What the kernel takes on a device, its result apart. -/
def before (d : Dev nD) : sProp 𝕄 := iprop(start m d ∗ ∃ f : ScrC (F := F), vLoc d ↦{fullShare} (f : Buf (Elt F) (vLoc d)))
/-- What the kernel leaves on a device, its result apart. -/
def after (d : Dev nD) : sProp 𝕄 :=
  iprop((vLoc d ↦{fullShare} (Wc m d : Buf (Elt F) (vLoc d))) ∗ xs m d ∗ (bigSep Finset.univ fun k => zero d k) ∗ semVal (bar d) 0)

/-- The pipeline's data: what the arrays hold before, what the result holds after, what is held and owed at either end. -/
def dats (_ : Fin 1) (d : Dev nD) : Dat τ (Elt F) Unit ℕ UU ℕ cfg0 d where
  A w := (s₀ m ρ).mem ((cfg0.win w).arr.view.loc (d : Thread nD τ))
  after w _ := match w with
    | ⟨0, _⟩ => Rc m d
  Φ t := match t with
    | ⟨0, _⟩ => before m d
    | ⟨_ + 1, _⟩ => after m d
  q _ := fullShare
  owed t := match t with
    | ⟨0, _⟩ => owedAll d
    | ⟨_ + 1, _⟩ => 0

/-! ## The body's obligation -/

omit [FloatOps F] in
/-- Owning a whole buffer at contents `X`. -/
theorem owns_buffer (d : Dev nD) (b : Ref sig .tc) (X : b.ty.Contents (Elt F)) :
    (owns (Ix := Unit) (Name := ℕ) (U := UU) (Lvl := ℕ) (d : Thread nD τ) (Memref.whole b) fullShare X : sProp 𝕄)
      = iprop(∃ f : Buf (Elt F) ((d : Thread nD τ).loc b), ⌜f = X⌝ ∗ (((d : Thread nD τ).loc b) ↦{fullShare} f)) := by
  unfold owns; simp only [Memref.view_whole, View.read_whole, View.set_whole]

/-- The result's staging buffer at given contents. -/
def stage (d : Dev nD) (X : (cc0_stg0_0 : Ref sig .tc).ty.Contents (Elt F)) : sProp 𝕄 :=
  iprop(∃ f : Buf (Elt F) ((d : Thread nD τ).loc cc0_stg0_0), ⌜f = X⌝ ∗ (((d : Thread nD τ).loc cc0_stg0_0) ↦{fullShare} f))
/-- What the body is called with. -/
def pre (d : Dev nD) : sProp 𝕄 :=
  iprop(before m d ∗ (dats m ρ 0 d).owesAt () t0_0.castSucc ∗ (∃ X, stage d ((dats m ρ 0 d).before (0 : Fin 1) t0_0 X)))
/-- What the body must return. -/
def post (d : Dev nD) : sProp 𝕄 :=
  iprop(after m d ∗ (dats m ρ 0 d).owesAt () t0_0.succ ∗ stage d (Rc m d))

/-- What the kernel starts from, read as what its body takes. -/
theorem pre_in (d : Dev nD) : pre m ρ d ⊢ iprop(∃ K, recs m K ∗ bodyIn m d ∗ ow d (owedAll d)) := by
  unfold pre before start given waitsFor records linear Dat.owesAt Pipeline.owesWithin stage
  rw [show (dats m ρ 0 d).owed t0_0.castSucc = owedAll d from rfl]
  iintro ⟨⟨⟨⟨%K, ⟨HI, HR⟩, Hpos, Hat, Htok, Hbt⟩, ⟨Hc, Hh⟩, Hlev, Hx⟩, Hv⟩, ⟨%W, -, HO⟩, ⟨%X, %f, -, Hf⟩⟩
  iexists K
  isplitl [HI HR Hlev]
  · unfold recs
    isplitl [HI]; · iexact HI
    isplitl [HR] <;> iassumption
  isplitr [HO]
  · unfold bodyIn
    isplitl [Hf]; · iexists f; iexact Hf
    isplitl [Hv]; · iexact Hv
    isplitl [Hx]; · iexact Hx
    isplitl [Hpos]; · iexact Hpos
    isplitl [Htok]; · iexact Htok
    isplitl [Hh]; · iexact Hh
    isplitl [Hc Hat]; · isplitl [Hc] <;> iassumption
    iexact Hbt
  · unfold ow; iexists W; iexact HO

/-- What the body leaves, read as what the kernel ends at. -/
theorem out_post (d : Dev nD) : iprop(bodyOut m d ∗ ow d 0) ⊢ post m ρ d := by
  unfold post after bodyOut Dat.owesAt Pipeline.owesWithin stage ow
  rw [show (dats m ρ 0 d).owed t0_0.succ = 0 from rfl]
  iintro ⟨⟨Ho, Hv, Hx, Hz, Hb⟩, ⟨%W, HO⟩⟩
  isplitl [Hv Hx Hz Hb]
  · isplitl [Hv]; · iexact Hv
    isplitl [Hx]; · iexact Hx
    isplitl [Hz] <;> iassumption
  isplitl [HO]
  · iexists W
    isplitr; · ipureintro; exact fun _ _ => Or.inl trivial
    iexact HO
  iexists _; isplitr; · (ipureintro; rfl)
  iexact Ho

/-- The body from its start to its end. -/
theorem body_ends (d : Dev nD) : pre m ρ d ⊢ WP d theText (fun _ => post m ρ d) := by
  iintro H
  ihave H := (pre_in m ρ d) $$ H
  icases H with ⟨%K, HG, Hin, HO⟩
  iapply (body_rule m K (fun _ => post m ρ d) d)
  isplitl [HG]; · iexact HG
  isplitl [Hin]; · iexact Hin
  isplitl [HO]; · iexact HO
  iintro H
  iapply (out_post m ρ d); iexact H

set_option maxRecDepth 65536 in
/-- What the pipeline asks of the body. -/
theorem body_obligation (d : Dev nD) : BodyObligation (dats (F := F) m ρ 0 d) (defs₀ (F := F)) 𝒱₀ () Set.univ := fun t => by
  rw [fin_N0 t]
  rw [bigSep_W0, bigSep_W0]
  simp only [owns_buffer]
  show pre m ρ d ⊢ WP d (cc0_body xB (Memref.isWhole_whole _) oB (Memref.isWhole_whole _) vB (Memref.isWhole_whole _) cc0_scratch1 cc0_scratch2 cc0_scratch3 cc0_scratch4
    cc0_scratch5 cc0_scratch6 cc0_scratch7 cc0_scratch8 cc0_scratch9 cc0_scratch10 cc0_scratch11 cc0_scratch12 cc0_scratch13) (fun _ => post m ρ d)
  rw [cc0_body_eq_skeleton, body_eq_text]
  exact body_ends m ρ d

/-! ## The launch's cells and rights -/

/-- The kernel's own semaphores. -/
abbrev osem (k : Kd) : SemLoc sig := .dma (num k)

/-- The kernel's own semaphores are scoped, different from one another and from the staging's. -/
theorem ownSemFacts : Pipeline.OwnSemFacts cfg0.spec osem where
  isScoped k := (by decide +kernel : ∀ n : Fin 121, (SemLoc.dma (sig := sig) n).isScoped .tc = true) (num k)
  inj k k' h := num_inj (by injection h)
  disj k w s h := num_ne_zero k (by
    have h' : num k = (cfg0.spec w).sem s := by injection h
    rw [h']; fin_cases w; fin_cases s; rfl)

/-- The result's window is held in full. -/
theorem share_eq (d : Dev nD) (w : Fin cfg0.W) : (dats m ρ 0 d).share w = fullShare := by unfold Dat.share; split <;> rfl

/-- Every cell of the mesh. -/
def allCells : Finset (GSem nD τ sig) :=
  Finset.univ.map ⟨fun p : Dev nD × Option Kd => gcell p.1 p.2, fun p q h => Prod.ext (gcell_inj h).1 (gcell_inj h).2⟩

/-- The right to pay, one per announcement and one per copy. -/
def tokOf (p : Dev nD × (Fin 3 ⊕ Kd)) : GSem nD τ sig × ℕ × Fin 3 :=
  match p.2 with
  | .inl j => (bar p.1, 0, j)
  | .inr k => (cell p.1 k, 0, 0)
/-- Different rights are different. -/
theorem tokOf_inj : Function.Injective tokOf := by
  rintro ⟨d, j⟩ ⟨e, k⟩ h
  have h1 := congrArg Prod.fst h
  have h2 := congrArg (fun x => x.2.2) h
  rcases j with j | j <;> rcases k with k | k
  · exact Prod.ext (gcell_inj (o := none) (p := none) h1).1 (congrArg Sum.inl h2)
  · exact absurd (gcell_inj (o := none) (p := some k) h1).2 (fun h => by cases h)
  · exact absurd (gcell_inj (o := some j) (p := none) h1).2 (fun h => by cases h)
  · have h3 := gcell_inj (o := some j) (p := some k) h1
    exact Prod.ext h3.1 (congrArg Sum.inr (by injection h3.2))
/-- Every right to pay. -/
def allToks : Finset (GSem nD τ sig × ℕ × Fin 3) := Finset.univ.map ⟨tokOf, tokOf_inj⟩

/-- What the launch starts with: the pipeline's cells and the mesh's. -/
def u₀ : UU := (initOf (Pipeline.cells cfgs cellOf_inj) (Pipeline.launchToks cfgs cellOf_inj), initOf allCells allToks)

/-- The rights to pay device `d`'s own cells. -/
def toks (d : Dev nD) : sProp 𝕄 := iprop((bigSep Finset.univ fun j : Fin 3 => dutyTok ER (bar d) 0 j) ∗ bigSep Finset.univ fun k => tok d k)

/-- What the launch element deals device `d`. -/
def dealt (d : Dev nD) : sProp 𝕄 :=
  iprop((bigSep Finset.univ fun o : Option Kd => roundState ER (sched m) (gcell d o) 0)
    ∗ (bigSep Finset.univ fun o : Option Kd => iprop(atPos ER (gcell d o) 0 ∅ 0 ∗ reached ER (gcell d o) 0)) ∗ toks d)

/-- The launch deals every device its cells' states, positions and rights. -/
theorem fund_cells : BI.own (ER (initOf allCells allToks)) ⊢ (|==> bigSep Finset.univ (dealt m) : sProp 𝕄) := by
  have hX (Φ : GSem nD τ sig → sProp 𝕄) : bigSep allCells Φ = bigSep Finset.univ fun d : Dev nD => bigSep Finset.univ fun o : Option Kd => Φ (gcell d o) := by
    unfold allCells; rw [bigSep_map, bigSep_univ_prod]; rfl
  have hT : bigSep allToks (fun x => (dutyTok ER x.1 x.2.1 x.2.2 : sProp 𝕄)) = bigSep Finset.univ fun d : Dev nD => toks d := by
    unfold allToks; rw [bigSep_map, bigSep_univ_prod]
    exact bigSep_congr fun d _ => by unfold toks; rw [bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
/-- A device's cells: the barrier's and its kinds'. -/
theorem over_cells (Φ : Option Kd → sProp 𝕄) : bigSep Finset.univ Φ = iprop(Φ none ∗ bigSep Finset.univ fun k => Φ (some k)) := by
  rw [row_univ (none :: kinds.map some)
      (List.nodup_cons.mpr ⟨fun h => by simp at h, kinds_nodup.map (Option.some_injective _)⟩)
      (fun o => by cases o with
        | none => exact List.mem_cons_self
        | some k => exact List.mem_cons_of_mem _ (List.mem_map_of_mem (mem_kinds k))) Φ,
    row_univ kinds kinds_nodup mem_kinds (fun k => Φ (some k)), ← row_map Φ some kinds]
  rfl

omit [FloatOps F] in
/-- The barrier semaphore is the launch's one semaphore outside the kernel's scope. -/
theorem unscopedSems0_eq (d : Dev nD) : (unscopedSems0 d : sProp 𝕄) = semVal (bar d) 0 := by
  unfold unscopedSems0; rw [bigSep_eq_bigSepL_of_eq [SemLoc.reg barS] (by decide +kernel) (by decide)]; rfl

omit [FloatOps F] in
/-- The kernel's own counters are at zero, kind by kind. -/
theorem ownSems0_eq (d : Dev nD) : (Pipeline.ownSems0 (Ix := Unit) (Name := ℕ) (U := UU) (Lvl := ℕ) (Val := Elt F) (τ := τ) osem d : sProp 𝕄)
    = bigSep Finset.univ fun k => zero d k := rfl

/-- A device makes the invariants of its cells. -/
theorem core_alloc (d : Dev nD) :
    iprop(Pipeline.ownSems0 (Ix := Unit) (Name := ℕ) (U := UU) (Lvl := ℕ) (Val := Elt F) (τ := τ) osem d ∗ unscopedSems0 d ∗ dealt m d)
      ⊢ |={Set.univ}=> iprop((bigSep Finset.univ fun o => iprop(∃ κ : ℕ, cellInv ER (sched m) κ (gcell d o)))
          ∗ (bigSep Finset.univ fun o => iprop(atPos ER (gcell d o) 0 ∅ 0 ∗ reached ER (gcell d o) 0)) ∗ toks d) := by
  rw [ownSems0_eq, unscopedSems0_eq]
  unfold dealt
  iintro ⟨Hos, Hus, Hst, Hat, Htok⟩
  imod (show iprop((bigSep Finset.univ fun o : Option Kd => semVal (gcell d o) 0) ∗ bigSep Finset.univ fun o : Option Kd => roundState ER (sched m) (gcell d o) 0)
      ⊢ (|={Set.univ}=> bigSep Finset.univ fun o => iprop(∃ κ : ℕ, cellInv ER (sched m) κ (gcell d o)) : sProp 𝕄) from by
        rw [← bigSep_sep']
        exact (bigSep_mono fun o _ => (Rounds.body_intro ER (sched m) (gcell d o)).trans inv_alloc).trans (bigSep_fupd _ _)) $$ [Hos Hus Hst] with Hinv
  · isplitr [Hst]
    · rw [over_cells (F := F) (fun o => semVal (gcell d o) 0)]
      isplitl [Hus]; · iexact Hus
      iexact Hos
    iexact Hst
  imodintro
  isplitl [Hinv]; · iexact Hinv
  isplitl [Hat]; · iexact Hat
  iexact Htok

omit [FloatOps F] in
/-- A family over devices and a finite type, dealt anew along an involution of the devices for each member. -/
theorem dealt_anew {ι : Type} [Fintype ι] (σ : Dev nD → ι → Dev nD) (h : ∀ d i, σ (σ d i) i = d) (Φ : Dev nD → ι → sProp 𝕄) :
    (bigSep Finset.univ fun d => bigSep Finset.univ fun i => Φ d i) = bigSep Finset.univ fun d => bigSep Finset.univ fun i => Φ (σ d i) i := by
  rw [← bigSep_univ_prod (fun p : Dev nD × ι => Φ p.1 p.2), ← bigSep_univ_prod (fun p : Dev nD × ι => Φ (σ p.1 p.2) p.2)]
  exact bigSep_univ_equiv (Function.Involutive.toPerm (fun p : Dev nD × ι => (σ p.1 p.2, p.2)) fun p => Prod.ext (h p.1 p.2) rfl) _

omit [FloatOps F] in
/-- The rights to pay go to the neighbours that pay. -/
theorem toks_around : (bigSep Finset.univ fun d : Dev nD => (toks d : sProp 𝕄))
    ⊢ bigSep Finset.univ fun d : Dev nD => iprop((bigSep Finset.univ fun k => tok (tgt d k) k)
      ∗ (dutyTok ER (bar (pY d)) 0 0 ∗ dutyTok ER (bar (pX d)) 0 1 ∗ dutyTok ER (bar (pZ d)) 0 2)) := by
  unfold toks
  rw [bigSep_sep', bigSep_sep', dealt_anew (F := F) nb nb_nb (fun d j => dutyTok ER (bar d) 0 j), dealt_anew (F := F) tgt tgt_tgt (fun d k => tok d k)]
  iintro ⟨H1, H2⟩
  isplitl [H2]; · iexact H2
  iapply (Entails.of_eq (bigSep_congr (s := Finset.univ) fun (d : Dev nD) _ =>
    bigSep_univ_eq_bigSepL [(0 : Fin 3), 1, 2] (by decide) (by decide) (fun j : Fin 3 => (dutyTok ER (bar (nb d j)) 0 j : sProp 𝕄))))
  iexact H1

omit [FloatOps F] in
/-- What can be used again and again goes to every member. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records and what stays with a device are what the launch gives it. -/
theorem given_intro (K : Dev nD × Option Kd → ℕ) (d : Dev nD) : iprop(records m K ∗ linear d) ⊢ given m d := by
  unfold given; iintro H; iexists K; iexact H

omit [FloatOps F] in
/-- What stays with the devices, all of it: positions, and rights to pay. -/
theorem linear_all : (bigSep Finset.univ fun d : Dev nD => (linear d : sProp 𝕄))
    = iprop((bigSep Finset.univ fun d : Dev nD => iprop(atPos ER (bar d) 0 ∅ 0 ∗ bigSep Finset.univ fun k => pos d k))
      ∗ bigSep Finset.univ fun d : Dev nD => iprop((bigSep Finset.univ fun k => tok (tgt d k) k)
        ∗ (dutyTok ER (bar (pY d)) 0 0 ∗ dutyTok ER (bar (pX d)) 0 1 ∗ dutyTok ER (bar (pZ d)) 0 2))) := by
  rw [← bigSep_sep']
  refine bigSep_congr fun d _ => ?_
  unfold linear
  rw [← sep_assoc_eq, sep_comm_eq (bigSep Finset.univ fun k => pos d k)]

/-- The invariants made by each device are known to all, and the rights dealt around. -/
theorem regroup :
    (bigSep Finset.univ fun d : Dev nD => iprop((bigSep Finset.univ fun o => iprop(∃ κ : ℕ, cellInv ER (sched m) κ (gcell d o)))
          ∗ (bigSep Finset.univ fun o => iprop(atPos ER (gcell d o) 0 ∅ 0 ∗ reached ER (gcell d o) 0)) ∗ toks d) : sProp 𝕄)
      ⊢ bigSep Finset.univ (given m) := by
  rw [bigSep_sep', bigSep_sep', ← bigSep_univ_prod (fun p : Dev nD × Option Kd => iprop(∃ κ : ℕ, cellInv ER (sched m) κ (gcell p.1 p.2))),
    bigSep_congr (s := Finset.univ) (fun (d : Dev nD) _ => bigSep_sep' Finset.univ (fun o : Option Kd => (atPos ER (gcell d o) 0 ∅ 0 : sProp 𝕄)) (fun o => reached ER (gcell d o) 0)),
    bigSep_sep', ← bigSep_univ_prod (fun p : Dev nD × Option Kd => (reached ER (gcell p.1 p.2) 0 : sProp 𝕄))]
  iintro ⟨HI, ⟨Hat, #HR⟩, Htok⟩
  ihave HK := (BI.bigSep_exists_pi Finset.univ (fun (p : Dev nD × Option Kd) (κ : ℕ) => (cellInv ER (sched m) κ (gcell p.1 p.2) : sProp 𝕄))) $$ HI
  icases HK with ⟨%K, #HI⟩
  ihave Htk := (toks_around (F := F)) $$ Htok
  iapply (with_persistent (R := records m K) (Φ := linear) fun d _ => given_intro m K d)
  isplitr
  · unfold records; isplitl; · iexact HI
    iexact HR
  · iapply (Entails.of_eq linear_all.symm)
    icases Hat with H
    ihave H := (Entails.of_eq (bigSep_congr (s := Finset.univ) fun (d : Dev nD) _ => over_cells (F := F) (fun o : Option Kd => (atPos ER (gcell d o) 0 ∅ 0 : sProp 𝕄)))) $$ H
    isplitl [H]; · iexact H
    iexact Htk

/-- All cells' invariants made at once. -/
theorem glob : (bigSep Finset.univ fun d => iprop(Pipeline.ownSems0 (Ix := Unit) (Name := ℕ) (U := UU) (Lvl := ℕ) (Val := Elt F) (τ := τ) osem d ∗ unscopedSems0 d ∗ dealt m d) : sProp 𝕄)
    ⊢ |={Set.univ}=> bigSep Finset.univ (given m) :=
  ((bigSep_mono fun d _ => core_alloc m d).trans (bigSep_fupd _ _)).trans (BI.fupd_mono (regroup m))

/-! ## What is owed at the launch is what is waited for -/

/-- What a loop pays is the sum over its list. -/
theorem tl_sum {ι : Type} (t : ι → CellTallies nD τ sig Unit) (l : List ι) : tl t l = (l.map t).sum := by
  induction l with
  | nil => rfl
  | cons i l ih => rw [tl, ih, List.map_cons, List.sum_cons, add_comm]

/-- What a device owes at the cell a kind of copy ends at. -/
def owesK (d : Dev nD) (k : Kd) : CellTallies nD τ sig Unit := if isR k = true then tallyAt (cell (tgt d k) k) () (amt k) else 0

/-- A sum of nothing is nothing. -/
theorem sum_none {ι : Type} (l : List ι) : (l.map fun _ => (0 : CellTallies nD τ sig Unit)).sum = 0 := by
  induction l with
  | nil => rfl
  | cons i l ih => rw [List.map_cons, List.sum_cons, ih, add_zero]

/-- All that a device owes, as a sum over the kinds and the announcements. -/
theorem owedAll_eq (d : Dev nD) : owedAll d = (∑ k : Kd, owesK d k) + ∑ j : Fin 3, tallyAt (bar (nb d j)) () 1 := by
  have hK : (∑ k : Kd, owesK d k) = (kinds.map (owesK d)).sum := by
    rw [← List.sum_toFinset _ kinds_nodup]
    exact Finset.sum_congr (Finset.ext fun k => by simp [mem_kinds k]) fun _ _ => rfl
  have hJ : (∑ j : Fin 3, tallyAt (bar (nb d j)) () 1 : CellTallies nD τ sig Unit)
      = tallyAt (bar (pY d)) () 1 + tallyAt (bar (pX d)) () 1 + tallyAt (bar (pZ d)) () 1 := Fin.sum_univ_three _
  rw [hK, hJ]
  unfold kinds owedAll
  simp only [List.map_append, List.sum_append, List.map_map]
  rw [tl_sum, tl_sum, tl_sum, tl_sum]
  rw [show (owesK d ∘ sY) = fun _ => 0 from rfl, show (owesK d ∘ sU) = fun _ => 0 from rfl, show (owesK d ∘ sX) = fun _ => 0 from rfl,
    show (owesK d ∘ sZ) = fun _ => 0 from rfl, show (owesK d ∘ sE) = fun _ => 0 from rfl, show (owesK d ∘ sO) = fun _ => 0 from rfl,
    show (owesK d ∘ kC) = fun _ => 0 from rfl, show (owesK d ∘ kU) = fun _ => 0 from rfl]
  rw [show (L12.map (tS d)).sum = (L12.map (owesK d ∘ rZ)).sum + (L12.map (owesK d ∘ rX)).sum from List.sum_map_add,
    show (L6.map (tP d)).sum = (L6.map (owesK d ∘ rO)).sum + (L6.map (owesK d ∘ rE)).sum from List.sum_map_add,
    show tC d = owesK d ∘ rY from rfl, show tU d = owesK d ∘ rU from rfl]
  simp only [sum_none, add_zero, zero_add]
  ac_rfl

/-- A debt at one cell counts at that cell alone. -/
theorem tally_cells (d e : Dev nD) (o p : Option Kd) (n : ℕ) : (tallyAt (gcell d o) () n : CellTallies nD τ sig Unit) (gcell e p) () = if e = d ∧ p = o then n else 0 := by
  rw [tallyAt_apply]
  by_cases h : e = d ∧ p = o
  · rw [if_pos ⟨by rw [h.1, h.2], rfl⟩, if_pos h]
  · rw [if_neg fun h' => h (gcell_inj h'.1), if_neg h]

/-- What a device owes for one kind counts at the neighbour's cell of this kind alone. -/
theorem owesK_cell (d e : Dev nD) (k k' : Kd) : owesK d k (cell e k') () = if e = tgt d k ∧ k' = k then (if isR k = true then amt k else 0) else 0 := by
  unfold owesK
  by_cases h : isR k = true
  · rw [if_pos h, if_pos h, tally_cells]; simp only [Option.some.injEq]
  · rw [if_neg h, if_neg h]; split <;> rfl
/-- What a device owes for a kind does not count at a barrier. -/
theorem owesK_bar (d e : Dev nD) (k : Kd) : owesK d k (bar e) () = 0 := by
  unfold owesK
  split
  · rw [tally_cells, if_neg fun h => by cases h.2]
  · rfl

/-- All that a device owes at a cell, as a sum over the kinds and the announcements. -/
theorem owed_at (d : Dev nD) (g : GSem nD τ sig) :
    owedAll d g () = (∑ k : Kd, owesK d k g ()) + ∑ j : Fin 3, (tallyAt (bar (nb d j)) () 1 : CellTallies nD τ sig Unit) g () := by
  rw [owedAll_eq, Pi.add_apply, Finsupp.add_apply, Finset.sum_apply, Finset.sum_apply, Finsupp.finset_sum_apply, Finsupp.finset_sum_apply]

/-- Along an involution of the devices exactly one device points at another. -/
theorem one_points (σ : Dev nD → Dev nD) (h : ∀ d, σ (σ d) = d) (e : Dev nD) (n : ℕ) : (∑ d : Dev nD, if e = σ d then n else 0) = n := by
  rw [Finset.sum_eq_single (σ e) (fun d _ hd => if_neg fun he => hd (by rw [he, h])) (fun hn => absurd (Finset.mem_univ _) hn), if_pos (h e).symm]

/-- All devices together owe a cell of a kind its copy's credit. -/
theorem owed_cell (e : Dev nD) (k : Kd) (hk : isR k = true) : (∑ d : Dev nD, owedAll d (cell e k) ()) = amt k := by
  have h1 (d : Dev nD) : owedAll d (cell e k) () = if e = tgt d k then amt k else 0 := by
    rw [owed_at, Finset.sum_eq_single k (fun k' _ hk' => by rw [owesK_cell, if_neg fun h => hk' h.2.symm]) (fun hn => absurd (Finset.mem_univ _) hn),
      owesK_cell, if_pos hk, Finset.sum_eq_zero (fun j _ => by rw [tally_cells, if_neg fun h => by cases h.2]), add_zero]
    simp only [and_true]
  rw [Finset.sum_congr rfl fun d _ => h1 d]
  exact one_points (fun d => tgt d k) (fun d => tgt_tgt d k) e _

/-- All devices together owe a barrier cell three units. -/
theorem owed_bar (e : Dev nD) : (∑ d : Dev nD, owedAll d (bar e) ()) = 3 := by
  have h1 (d : Dev nD) : owedAll d (bar e) () = ∑ j : Fin 3, if e = nb d j then 1 else 0 := by
    rw [owed_at, Finset.sum_eq_zero (fun k _ => owesK_bar d e k), zero_add]
    exact Finset.sum_congr rfl fun j _ => by rw [tally_cells]; simp only [and_true]
  rw [Finset.sum_congr rfl fun d _ => h1 d, Finset.sum_comm, Finset.sum_congr rfl fun j _ => one_points (fun d => nb d j) (fun d => nb_nb d j) e 1]
  rfl

/-- The launch's credit at a cell is what all devices together owe it. -/
theorem launch_at (e : Dev nD) (o : Option Kd) (n : ℕ) (h : (∑ d : Dev nD, owedAll d (gcell e o) ()) = n) :
    tallyOn (gcell e o) (launchCredit (Pipeline.owing owedAll) 0 (gcell e o)) = (tallyAt (gcell e o) () n : CellTallies nD τ sig Unit) := by
  unfold tallyAt; refine congrArg _ (Finsupp.ext fun u => ?_); cases u
  rw [Pipeline.launchCredit_owing, Finsupp.single_eq_same, h]

omit [FloatOps F] in
/-- What is not needed goes. -/
theorem drop_all (P : sProp 𝕄) : P ⊢ iprop(emp) := by
  iintro -; iempintro

/-- What the others owe the device is what it may wait for. -/
theorem creds (d : Dev nD) : (Pipeline.launchCred owedAll d : sProp 𝕄) ⊢ waitsFor d := by
  unfold Pipeline.launchCred waitsFor
  rw [bigSep_univ_at _ (SemLoc.reg barS)]
  refine BI.sep_mono (Entails.of_eq (congrArg cred (launch_at d none 3 (owed_bar d)))) ?_
  refine (bigSep_subset (t := Finset.univ.map ⟨osem, ownSemFacts.inj⟩) (fun s hs => ?_)).trans ?_
  · obtain ⟨k, -, rfl⟩ := Finset.mem_map.mp hs
    exact Finset.mem_erase.mpr ⟨fun h => (by cases h), Finset.mem_univ _⟩
  · rw [bigSep_map]
    refine bigSep_mono fun k _ => ?_
    by_cases hk : isR k = true
    · rw [if_pos hk]
      exact Entails.of_eq (congrArg cred (launch_at d (some k) (amt k) (owed_cell d k hk)))
    · rw [if_neg hk]; exact drop_all _

/-! ## The run -/

/-- What the launch gives a device is what it starts from. -/
theorem start_intro (d : Dev nD) :
    iprop(Pipeline.unscopedRestP Pipeline.Prefetch.none cfg0.spec d (fun b => m ((d : Thread nD τ).loc b)) ∗ levAts L lv
        ∗ Pipeline.launchCred owedAll d ∗ prngReg d (ρ d) ∗ given m d)
      ⊢ |={Set.univ}=> iprop(start m d ∗ emp) := by
  rw [Pipeline.unscopedRestP_none, unscopedRest0_eq]
  iintro ⟨Hx, Hlev, Hcr, -, HG⟩
  ihave Hc := (creds (F := F) d) $$ Hcr
  imodintro
  unfold start xs
  isplitl
  · isplitl [HG]; · iexact HG
    isplitl [Hc]; · iexact Hc
    isplitl [Hlev]; · iexact Hlev
    iexists fullShare; iexact Hx
  · iempintro

/-- With the scratch buffer it is what the kernel takes. -/
theorem before_intro (d : Dev nD) :
    iprop(start m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = before m d from rfl, scopedRest0_eq]
  unfold before
  iintro ⟨Hs, -, Hr⟩
  isplitl [Hs] <;> iassumption

/-- What the kernel leaves gives back the counters, the scratch buffer and the argument. -/
theorem after_exit (d : Dev nD) :
    (dats m ρ 0 d).Φ (Fin.last cfg0.N) ⊢ iprop((unscopedSems0 d ∗ xs m d) ∗ Pipeline.ownSems0 osem d ∗ Pipeline.scopedRest cfg0.spec d) := by
  rw [show (dats m ρ 0 d).Φ (Fin.last cfg0.N) = after m d from rfl, scopedRest0_eq, ownSems0_eq, unscopedSems0_eq]
  unfold after
  iintro ⟨Hv, Hx, Hz, Hb⟩
  isplitl [Hb Hx]
  · isplitl [Hb] <;> iassumption
  isplitl [Hz]; · iexact Hz
  iexists (Wc m d); iexact Hv

/-- All that is owed at the start is above level 0. -/
theorem above_all (d : Dev nD) : Above 0 (owedAll d) :=
  ((((aboveC d).mono (by omega)).add (.tally _ rfl (by rw [lv_bar]; omega))).add (.tally _ rfl (by rw [lv_bar]; omega))).add (.tally _ rfl (by rw [lv_bar]; omega))

/-- The staging's semaphore has level 0. -/
theorem stage_low (d : Dev nD) (w : Fin 1) (s : Fin ((cfg0.win w).nbuf)) : lv ((d : Thread nD τ), SemLoc.dma ((cfg0.win w).sem s)) () ≤ 0 := by
  have h : (cfg0.win w).sem s = (0 : Fin 121) := by fin_cases w; fin_cases s; rfl
  rw [h]
  show (match kindOf (0 : Fin 121) with | some k => lvK k | none => 0) ≤ 0
  rw [kindOf_zero]

/-- The staging may be waited for at any time. -/
theorem waits (d : Dev nD) : (levAts L lv : sProp 𝕄) ⊢ Pipeline.cellsWaits cfgs (dats m ρ) () 0 d :=
  Pipeline.cellsWaits_intro cfgs (dats m ρ) () 0 d fun w s t =>
    mayWait d _ 0 _ (stage_low d w s) (by
      rcases t with ⟨_ | _, ht⟩
      · exact above_all d
      · exact .zero 0)

/-- The result array at the end. -/
def finalA (d : Dev nD) (w : Fin cfg0.W) : Buf (Elt F) ((cfg0.win w).arr.view.loc (d : Thread nD τ)) := (dats m ρ 0 d).arrAt w cfg0.N

/-- What is known at the end: the result array as the pipeline wrote it, the argument as it was. -/
def AtEnd (r : PUnit × MemSt nD τ sig (Elt F)) : Prop :=
  ∀ d : Dev nD, r.2.mem ((d : Thread nD τ).loc main_v1) = finalA m ρ d (0 : Fin 1) ∧ r.2.mem (xLoc d) = m (xLoc d)

/-- At the end the memory is read: the barrier's counter is zero and the argument is as it was. -/
theorem read_end (d : Dev nD) (s' : Phys nD τ sig (Elt F)) :
    iprop((unscopedSems0 d ∗ xs m d) ∗ emp ∗ SI s')
      ⊢ (|={Set.univ}=> iprop(⌜(∀ sm : SemLoc sig, sm.isScoped .tc = false → s'.mem.sem ((d.tc : Thread nD τ), sm) = 0) ∧ s'.mem.mem (xLoc d) = m (xLoc d)⌝ ∗ SI s') : sProp 𝕄) := by
  unfold xs
  iintro ⟨⟨Hu, ⟨%q, Hx⟩⟩, -, HSI⟩
  ihave %hx := (SI_pointsTo_agree) $$ [HSI Hx]
  · isplitl [HSI] <;> iassumption
  imod (Pipeline.unscopedSems0_read (X := unscopedSems0 d) (c := d) fupd_intro s') $$ [Hu HSI] with ⟨%hs, HSI⟩
  · isplitl [Hu] <;> iassumption
  imodintro
  isplitr
  · ipureintro; exact ⟨hs, funext fun i => hx i (Finset.mem_univ i)⟩
  iexact HSI

set_option maxRecDepth 65536 in
/-- At the compiled mesh of eight devices, at any float values, from any memory with zero counters: the program ends, and at
    every end each device's result array is as computed, its argument unchanged, every counter at zero. -/
theorem run_main : θ_run defs (onTc (τ := τ) (main (F := F))) (s₀ m ρ) (fun r => AtEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w; exact Nat.succ_pos _) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := dealt m) (G' := given m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun d => iprop(unscopedSems0 d ∗ xs m d)) (Z := fun _ => iprop(emp))
    (hX := start_intro m ρ) (hin := before_intro m ρ) (hout := after_exit m ρ)
    (QY := fun d s => (∀ sm : SemLoc sig, sm.isScoped .tc = false → s.sem ((d.tc : Thread nD τ), sm) = 0) ∧ s.mem (xLoc d) = m (xLoc d))
    (hY := fun d s' => read_end m d s')
    (hQ := fun _ h hs => ⟨fun d => ⟨(h d).1 (0 : Fin 1), (h d).2.2.2⟩, sem_eq_zero hs fun d => (h d).2.2.1⟩)

/-- The result array at the end is the finished result. -/
theorem finalA_result (d : Dev nD) : finalA m ρ d (0 : Fin 1) = Rc m d := by
  have hz : (fun a => (win0_0.index (0 : Fin 1)) a * main_v1.ty.shape.size a) = fun _ => 0 :=
    funext fun a => by fin_cases a <;> decide
  have hr := fun f => Memref.read_access_unit_zero (Elt F) main_v1 hz (fun a => by fin_cases a <;> decide) f
  have h : (win0_0.blk (0 : Fin 1)).view.read (Elt F) (finalA m ρ d (0 : Fin 1)) = Rc m d := by
    unfold finalA
    rw [show cfg0.N = ((0 : Fin 1) : Fin cfg0.N).val + 1 from rfl, (dats m ρ 0 d).arrAt_succ (0 : Fin 1) (0 : Fin 1)]
    rw [show (cfg0.win (0 : Fin 1)).flush (0 : Fin 1) = true from by decide, if_pos rfl]
    exact View.read_write_univ _ _
  exact (hr _).symm.trans h

/-- The kernel ends with each device's finished result, its argument unchanged and every counter at zero. -/
theorem kernel_run : θ_run defs (onTc (τ := τ) (main (F := F))) ⟨m, fun _ => 0, ρ⟩
    (fun r => (∀ d : Dev nD, r.2.mem ((d.tc : Thread nD τ).loc main_v1) = Rc m d ∧ r.2.mem ((d.tc : Thread nD τ).loc main_arg0) = m ((d.tc : Thread nD τ).loc main_arg0))
      ∧ r.2.sem = fun _ => 0) :=
  (θ_run defs _ _).mono (fun _ h => ⟨fun d => ⟨(h.1 d).1.trans (finalA_result m ρ d), (h.1 d).2⟩, h.2⟩) (run_main m ρ)

end Cert.KernelIdeal.Own

end
-- ==== Proof.Ref.lean ====
module

public import proofs.«01_k».proof.ReferenceIdeal
public import proofs.«01_k».proof.Proof.Gen.ReferenceIdeal
public import Idealize.ShloMosaic.Lib.StableHlo.Run
public import Idealize.ShloMosaic.Lib.Quiescent
public import Idealize.ShloMosaic.PureOps.Ideal.Laws

@[expose] public section

noncomputable section

namespace Cert.ReferenceIdeal.Own

open Cert.ReferenceIdeal Cert.ReferenceIdeal.Gen
open Idealize.ShloMosaic Idealize.ShloMosaic.TcCoe Idealize.ShloMosaic.StableHlo Idealize.SL.Sem

/-! # The reference: what its one device computes -/

section Run

variable {F : FTy → Type} [FloatOps F]

/-- The two steps of the reference: the zero, then the sum of the two slabs. -/
abbrev steps : List (HloOp τ sig (Elt F)) :=
  [nullary main_cst (constant S_ .f32 0x00000000#32),
   binary main_arg0 main_cst main_v0 (fun x v => Host.reduceAdd x v reducesTo_S2x8192x2048_S8192x2048_d0 h_S_)]

/-- The sum of the two slabs of an array, as the host takes it. -/
abbrev slabSum (x : Buf (Elt F) (((0 : Dev nD) : Thread nD τ).loc main_arg0)) :
    Buf (Elt F) (((0 : Dev nD) : Thread nD τ).loc main_v0) :=
  Host.reduceAdd x (constant S_ .f32 0x00000000#32) reducesTo_S2x8192x2048_S8192x2048_d0 h_S_

/-- The reference runs to the end, its result is the sum of the two slabs, its argument is kept, and its counters
    read zero, there being none. -/
theorem reference_run (m : (ℓ : Loc nD τ sig) → Buf (Elt F) ℓ) (ρ : Dev nD → PrngReg) :
    θ_run defs (onTc (τ := τ) (main (F := F))) ⟨m, fun _ => 0, ρ⟩ fun r =>
      (r.2.mem (((0 : Dev nD) : Thread nD τ).loc main_v0) = slabSum (m (((0 : Dev nD) : Thread nD τ).loc main_arg0))
        ∧ ∀ c : Dev nD, r.2.mem ((c.tc : Thread nD τ).loc main_arg0) = m ((c.tc : Thread nD τ).loc main_arg0))
      ∧ r.2.sem = fun _ => 0 :=
  (θ_run defs _ _).mono
    (fun r h => ⟨⟨(h 0 main_v0).trans (by after_results), fun c => (h c main_arg0).trans (by after_results)⟩,
      sem_eq_zero_of_no_sems (by decide) r.2⟩)
    (run_seq (by decide) (by decide) defs main (fun _ => steps) (fun _ => rfl)
      (fun _ => ⟨nullary_bufs_sub .., binary_bufs_sub ..⟩) m ρ)

end Run

/-! ## The sum at one place, over exact values -/

/-- The place `(y, r, k)` of the whole argument. -/
def wholeIx (y : Fin 2) (j : S8192x2048.Idx) : S2x8192x2048.Idx :=
  fun a => match a with
    | ⟨0, _⟩ => y
    | ⟨1, _⟩ => j 0
    | ⟨2, _⟩ => j 1

/-- The reduction drops the outermost axis and keeps the others. -/
theorem drops_outer : S2x8192x2048.Reduces [0] S8192x2048 := by decide

/-- A result place with slab `y` put back in front of it is the place `(y, r, k)`. -/
theorem lift_eq (j : S8192x2048.Idx) (y : Fin 2) : drops_outer.lift j y = wholeIx y j := by
  funext a
  match a with
  | ⟨0, _⟩ => rfl
  | ⟨1, _⟩ => rfl
  | ⟨2, _⟩ => rfl

/-- Over exact values the sum of the two slabs at a place is the first slab's value there plus the second's. -/
theorem slabSum_at (x : S2x8192x2048.Idx → EReal) (j : S8192x2048.Idx) :
    (slabSum (F := Ideal) x j : EReal) = x (wholeIx 0 j) + x (wholeIx 1 j) := by
  have h := Ideal.hostReduceAdd_single reducesTo_S2x8192x2048_S8192x2048_d0 drops_outer x (Ideal.ofBits .f32 0x00000000#32) j
  refine Eq.trans h ?_
  rw [Ideal.ofBits_zero_f32, zero_add]
  refine (Fin.sum_univ_two (fun y : Fin 2 => x (drops_outer.lift j y))).trans ?_
  rw [lift_eq, lift_eq]

end Cert.ReferenceIdeal.Own

end
-- ==== Proof.IValue.lean ====
module

public import proofs.«01_k».proof.Proof.IRows
public import proofs.«01_k».proof.Proof.Ref
public import Idealize.ShloMosaic.Lib.Layout

@[expose] public section

noncomputable section

namespace Cert.KernelIdeal.Own

open Cert.KernelIdeal Cert.KernelIdeal.Gen
open Idealize.ShloMosaic Idealize.ShloMosaic.TcCoe
open Cert.ReferenceIdeal.Own (wholeIx slabSum slabSum_at)

/-! # The value: each device's result is its block of columns of the sum of the two slabs -/

/-- The whole argument and the memories of the devices agree: each device holds the slab its place in the mesh names. -/
abbrev Agrees (m : (ℓ : Loc nD τ sig) → Buf (Elt Ideal) ℓ) (X : Cert.ReferenceIdeal.S2x8192x2048.Idx → EReal) : Prop :=
  ∀ c : Dev nD, m (xLoc c) = Layout.blockN ⟨3, ![1, 8192, 2048]⟩ ⟨3, ![2, 8192, 2048]⟩
    (Layout.meshBlock [2, 2, 2] ![[1], [], []] c) X

/-- The slab device `d` holds. -/
def slabOf (d : Dev nD) : Fin 2 := ⟨(d.val / 2) % 2, Nat.mod_lt _ (by decide)⟩

/-- The place of the whole result where device `d`'s place `i` lies. -/
def outIx (d : Dev nD) (i : S8192x1024.Idx) : Cert.ReferenceIdeal.S8192x2048.Idx :=
  fun a => match a with
    | ⟨0, _⟩ => i 0
    | ⟨1, _⟩ => colAt d (i 1)

variable {m : (ℓ : Loc nD τ sig) → Buf (Elt Ideal) ℓ} {X : Cert.ReferenceIdeal.S2x8192x2048.Idx → EReal}

/-- What device `c`'s argument holds at row `r` and column `k` is the whole argument's value there in its slab. -/
theorem arg_at (h : Agrees m X) (c d : Dev nD) (i : S8192x1024.Idx) :
    (m (xLoc c) (xIx (i 0) (colAt d (i 1))) : EReal) = X (wholeIx (slabOf c) (outIx d i)) := by
  rw [h c]
  refine congrArg X ?_
  funext a
  apply Fin.ext
  match a with
  | ⟨0, _⟩ =>
    show Layout.meshLin [2, 2, 2] c.val [1] * 1 + 0 = (c.val / 2) % 2
    simp [Layout.meshLin, Layout.meshCoord, Layout.cutSize]
  | ⟨1, _⟩ => show 0 * 8192 + (i 0).val = (i 0).val; omega
  | ⟨2, _⟩ => show 0 * 2048 + (colAt d (i 1)).val = (colAt d (i 1)).val; omega

/-- The two devices of a pair hold the two slabs. -/
theorem slabs (d : Dev nD) :
    (slabOf (pY d) = 0 ∧ slabOf d = 1) ∨ (slabOf (pY d) = 1 ∧ slabOf d = 0) := by
  revert d; decide

/-- The device an owned row comes from works on the same columns. -/
theorem outIx_own (d : Dev nD) (b : Nat) (i : S8192x1024.Idx) : outIx (own d b) i = outIx d i := by
  funext a
  apply Fin.ext
  match a with
  | ⟨0, _⟩ => rfl
  | ⟨1, _⟩ =>
    show col (own d b) + _ = col d + _
    have : col (own d b) = col d := by
      unfold col own
      show 1024 * (((4 * ((b / 2) % 2) + 2 * ((d.val / 2) % 2) + b % 2) / 2) % 2) = _
      omega
    rw [this]

/-- The sum a device takes is the sum of the two slabs at its place. -/
theorem Sc_at (h : Agrees m X) (d : Dev nD) (i : S8192x1024.Idx) :
    (Sc m d i : EReal) = slabSum (F := Ideal) X (outIx d i) := by
  refine Eq.trans ?_ (slabSum_at X (outIx d i)).symm
  refine (congrArg₂ (fun a b : EReal => a + b) (arg_at h (pY d) d i) (arg_at h d d i)).trans ?_
  show X _ + X _ = X _ + X _
  rcases slabs d with ⟨h0, h1⟩ | ⟨h0, h1⟩
  · rw [h0, h1]
  · rw [h0, h1, add_comm]

/-- A device's result is its block of columns of the reference's result. -/
theorem Rc_block (h : Agrees m X) (d : Dev nD) :
    Rc m d = Layout.blockN ⟨2, ![8192, 1024]⟩ ⟨2, ![8192, 2048]⟩ (Layout.meshBlock [2, 2, 2] ![[], [1]] d)
      (slabSum (F := Ideal) X) := by
  funext i
  have hi : Rc m d i = slabSum (F := Ideal) X (outIx d i) := by
    show (if (i 0).val < 7296 then Sc m (own d ((i 0).val / 1824)) i else Sc m d i) = _
    split
    · rw [Sc_at h, outIx_own]
    · exact Sc_at h d i
  rw [hi, Layout.blockN_apply]
  refine congrArg (slabSum (F := Ideal) X) ?_
  funext a
  apply Fin.ext
  match a with
  | ⟨0, _⟩ => show (i 0).val = 0 * 8192 + (i 0).val; omega
  | ⟨1, _⟩ =>
    show col d + (i 1).val = Layout.meshLin [2, 2, 2] d.val [1] * 1024 + (i 1).val
    simp [Layout.meshLin, Layout.meshCoord, Layout.cutSize, col]
    omega

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KLaunch
public import proofs.«01_k».proof.Proof.ILaunch
public import proofs.«01_k».proof.Proof.IValue
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The kernel at the bits runs to the end, keeps its argument, and leaves every counter at zero. -/
theorem frame_kernel : Cert.quiescent_Kernel := by
  intro m g _
  exact (θ_run (Cert.Kernel.defs (F := Bits)) _ _).mono (fun _ h => ⟨fun c => (h.1 c).2, h.2⟩)
    (Cert.Kernel.Own.kernel_run (F := Bits) m g)

/-- The kernel over exact values runs to the end, keeps its argument, and leaves every counter at zero. -/
theorem frame_ideal : Cert.quiescent_KernelIdeal := by
  intro m g _
  exact (θ_run (Cert.KernelIdeal.defs (F := Ideal)) _ _).mono (fun _ h => ⟨fun c => (h.1 c).2, h.2⟩)
    (Cert.KernelIdeal.Own.kernel_run (F := Ideal) m g)

/-- The reference over exact values runs to the end and keeps its argument; it has no counters. -/
theorem frame_reference : Cert.quiescent_ReferenceIdeal := by
  intro m g _
  exact (θ_run (Cert.ReferenceIdeal.defs (F := Ideal)) _ _).mono (fun _ h => ⟨h.1.2, h.2⟩)
    (Cert.ReferenceIdeal.Own.reference_run (F := Ideal) m g)

/-- Over exact values each device's result is its block of columns of the reference's sum. -/
theorem values : Cert.algebraic_KernelIdeal_ReferenceIdeal := by
  intro m g m' g' _ hagree
  refine ⟨Cert.ReferenceIdeal.Own.slabSum (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h.1 c).1.trans (Cert.KernelIdeal.Own.Rc_block hagree c), (h.1 c).2⟩)
      (Cert.KernelIdeal.Own.kernel_run (F := Ideal) m g)
  · exact (θ_run (Cert.ReferenceIdeal.defs (F := Ideal)) _ _).mono (fun _ h => ⟨h.1.1, h.1.2 0⟩)
      (Cert.ReferenceIdeal.Own.reference_run (F := Ideal) m' g')

/-- The whole claim. -/
theorem claim : Cert.Claim := ⟨Cert.Kernel.Gen.facts, Cert.KernelIdeal.Gen.facts, Cert.ReferenceIdeal.Gen.facts,
  frame_kernel, frame_ideal, frame_reference, trivial, values⟩

end Cert.Proof

end
